-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "scale" .f32 0x3E38AA3B#32 (((Real.log 2)⁻¹ * (1 / 8) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x1024 : Shape := ⟨3, ![2, 2048, 1024]⟩
abbrev S2 : Shape := ⟨1, ![2]⟩
abbrev S3 : Shape := ⟨1, ![3]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩
abbrev S2048x1024 : Shape := ⟨2, ![2048, 1024]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  slices_S3072x1024_S2048x1024_0_0 : S3072x1024.Slices ![0, 0] S2048x1024
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2x2048x1024 .f32) (main_arg1 : IVec S2 32) (main_arg2 : IVec S3 32) (main_arg3 : FVec F S3072x1024 .f32) (main_arg4 : FVec F S1024x1024 .f32) (main_arg5 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2048x1024 .f32 := (extractStridedSlice S2048x1024 ![0, 0] · slices_S3072x1024_S2048x1024_0_0) main_arg3
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v3 main_v8
  main_v9
-- ==== Kernel.lean ====
abbrev S2x2048x1024 : Shape := ⟨3, ![2, 2048, 1024]⟩
abbrev S2 : Shape := ⟨1, ![2]⟩
abbrev S3 : Shape := ⟨1, ![3]⟩
abbrev S3072x1024 : Shape := ⟨2, ![3072, 1024]⟩
abbrev S1024x1024 : Shape := ⟨2, ![1024, 1024]⟩
abbrev S1024 : Shape := ⟨1, ![1024]⟩
abbrev S3x4x4x64x1024 : Shape := ⟨5, ![3, 4, 4, 64, 1024]⟩
abbrev S4x4x3x64x1024 : Shape := ⟨5, ![4, 4, 3, 64, 1024]⟩
abbrev S4x768x1024 : Shape := ⟨3, ![4, 768, 1024]⟩
abbrev S1x1024 : Shape := ⟨2, ![1, 1024]⟩
abbrev S1x2048x1024 : Shape := ⟨3, ![1, 2048, 1024]⟩
abbrev S1x768x1024 : Shape := ⟨3, ![1, 768, 1024]⟩
abbrev S2048x1024 : Shape := ⟨2, ![2048, 1024]⟩
abbrev S768x1024 : Shape := ⟨2, ![768, 1024]⟩
abbrev S2048x768 : Shape := ⟨2, ![2048, 768]⟩
abbrev S2048x64 : Shape := ⟨2, ![2048, 64]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S256x1024 : Shape := ⟨2, ![256, 1024]⟩
abbrev S1x256x1024 : Shape := ⟨3, ![1, 256, 1024]⟩

abbrev nBuf : Space → Nat
  | .hbm => 15
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S2, .i32⟩
  | .hbm, ⟨2, _⟩ => ⟨S3, .i32⟩
  | .hbm, ⟨3, _⟩ => ⟨S3072x1024, .f32⟩
  | .hbm, ⟨4, _⟩ => ⟨S1024x1024, .f32⟩
  | .hbm, ⟨5, _⟩ => ⟨S1024, .f32⟩
  | .hbm, ⟨6, _⟩ => ⟨S3x4x4x64x1024, .f32⟩
  | .hbm, ⟨7, _⟩ => ⟨S4x4x3x64x1024, .f32⟩
  | .hbm, ⟨8, _⟩ => ⟨S4x768x1024, .f32⟩
  | .hbm, ⟨9, _⟩ => ⟨S4x768x1024, .bf16⟩
  | .hbm, ⟨10, _⟩ => ⟨S1024x1024, .bf16⟩
  | .hbm, ⟨11, _⟩ => ⟨S1x1024, .f32⟩
  | .hbm, ⟨12, _⟩ => ⟨S2x2048x1024, .bf16⟩
  | .hbm, ⟨13, _⟩ => ⟨S2x2048x1024, .bf16⟩
  | .hbm, ⟨14, _⟩ => ⟨S2x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S1024x1024, .bf16⟩
  | .local _ .vmem, ⟨5, _⟩ => ⟨S1x1024, .f32⟩
  | .local _ .vmem, ⟨6, _⟩ => ⟨S1x2048x1024, .bf16⟩
  | .local _ .vmem, ⟨7, _⟩ => ⟨S1x2048x1024, .bf16⟩
  | .local _ .vmem, ⟨8, _⟩ => ⟨S2048x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def k0_off1 (i : grid0.Coords) : Fin 2 → Nat :=
  let c0_25 : Index := 0#32
  let arg1 : BitVec 32 := BitVec.ofNat 32 (i 1).val
  let c4_i32 : BitVec 32 := 4#32
  let v86 : BitVec 32 := Scalar.muli arg1 c4_i32
  let c64_i32 : BitVec 32 := 64#32
  let v87 : BitVec 32 := Scalar.muli v86 c64_i32
  let v88 : Index := Scalar.indexCast v87
  ![0, v88.toNat]
def k0_off2 (i : grid0.Coords) : Fin 2 → Nat :=
  let c256 : Index := 256#32
  let arg1 : BitVec 32 := BitVec.ofNat 32 (i 1).val
  let c4_i32_42 : BitVec 32 := 4#32
  let v141 : BitVec 32 := Scalar.muli arg1 c4_i32_42
  let c64_i32_43 : BitVec 32 := 64#32
  let v142 : BitVec 32 := Scalar.muli v141 c64_i32_43
  let v143 : Index := Scalar.indexCast v142
  ![256, v143.toNat]
def k0_off3 (i : grid0.Coords) : Fin 2 → Nat :=
  let c512 : Index := 512#32
  let arg1 : BitVec 32 := BitVec.ofNat 32 (i 1).val
  let c4_i32_60 : BitVec 32 := 4#32
  let v196 : BitVec 32 := Scalar.muli arg1 c4_i32_60
  let c64_i32_61 : BitVec 32 := 64#32
  let v197 : BitVec 32 := Scalar.muli v196 c64_i32_61
  let v198 : Index := Scalar.indexCast v197
  ![512, v198.toNat]
def k0_off4 (i : grid0.Coords) : Fin 2 → Nat :=
  let c768 : Index := 768#32
  let arg1 : BitVec 32 := BitVec.ofNat 32 (i 1).val
  let c4_i32_78 : BitVec 32 := 4#32
  let v251 : BitVec 32 := Scalar.muli arg1 c4_i32_78
  let c64_i32_79 : BitVec 32 := 64#32
  let v252 : BitVec 32 := Scalar.muli v251 c64_i32_79
  let v253 : Index := Scalar.indexCast v252
  ![768, v253.toNat]
def k0_off5 (i : grid0.Coords) : Fin 2 → Nat :=
  let c1024 : Index := 1024#32
  let arg1 : BitVec 32 := BitVec.ofNat 32 (i 1).val
  let c4_i32_96 : BitVec 32 := 4#32
  let v306 : BitVec 32 := Scalar.muli arg1 c4_i32_96
  let c64_i32_97 : BitVec 32 := 64#32
  let v307 : BitVec 32 := Scalar.muli v306 c64_i32_97
  let v308 : Index := Scalar.indexCast v307
  ![1024, v308.toNat]
def k0_off6 (i : grid0.Coords) : Fin 2 → Nat :=
  let c1280 : Index := 1280#32
  let arg1 : BitVec 32 := BitVec.ofNat 32 (i 1).val
  let c4_i32_114 : BitVec 32 := 4#32
  let v361 : BitVec 32 := Scalar.muli arg1 c4_i32_114
  let c64_i32_115 : BitVec 32 := 64#32
  let v362 : BitVec 32 := Scalar.muli v361 c64_i32_115
  let v363 : Index := Scalar.indexCast v362
  ![1280, v363.toNat]
def k0_off7 (i : grid0.Coords) : Fin 2 → Nat :=
  let c1536 : Index := 1536#32
  let arg1 : BitVec 32 := BitVec.ofNat 32 (i 1).val
  let c4_i32_132 : BitVec 32 := 4#32
  let v416 : BitVec 32 := Scalar.muli arg1 c4_i32_132
  let c64_i32_133 : BitVec 32 := 64#32
  let v417 : BitVec 32 := Scalar.muli v416 c64_i32_133
  let v418 : Index := Scalar.indexCast v417
  ![1536, v418.toNat]
def k0_off8 (i : grid0.Coords) : Fin 2 → Nat :=
  let c1792 : Index := 1792#32
  let arg1 : BitVec 32 := BitVec.ofNat 32 (i 1).val
  let c4_i32_150 : BitVec 32 := 4#32
  let v471 : BitVec 32 := Scalar.muli arg1 c4_i32_150
  let c64_i32_151 : BitVec 32 := 64#32
  let v472 : BitVec 32 := Scalar.muli v471 c64_i32_151
  let v473 : Index := Scalar.indexCast v472
  ![1792, v473.toNat]
def k0_cond1 (i : grid0.Coords) : BitVec 1 :=
  let arg1 : BitVec 32 := BitVec.ofNat 32 (i 1).val
  let c3_i32 : BitVec 32 := 3#32
  let v477 : BitVec 1 := Scalar.cmpi .eq arg1 c3_i32
  let v478 : BitVec 32 := Scalar.extui v477
  let c0_i32 : BitVec 32 := 0#32
  let v479 : BitVec 1 := Scalar.cmpi .ne v478 c0_i32
  v479

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "scale" => some (((Real.log 2)⁻¹ * (1 / 8) : ℝ) : EReal)
  | _ => none
-- ==== ReferenceIdeal.lean ====
abbrev S2x2048x1024 : Shape := ⟨3, ![2, 2048, 1024]⟩
abbrev S2 : Shape := ⟨1, ![2]⟩
abbrev S3 : Shape := ⟨1, ![3]⟩
abbrev S3072x1024 : Shape := ⟨2, ![3072, 1024]⟩
abbrev S1024x1024 : Shape := ⟨2, ![1024, 1024]⟩
abbrev S1024 : Shape := ⟨1, ![1024]⟩
abbrev S1024x3072 : Shape := ⟨2, ![1024, 3072]⟩
abbrev S2x2048x3072 : Shape := ⟨3, ![2, 2048, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x64x2048 : Shape := ⟨4, ![2, 16, 64, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2, .i32⟩
  | .hbm, ⟨2, _⟩ => ⟨S3, .i32⟩
  | .hbm, ⟨3, _⟩ => ⟨S3072x1024, .f32⟩
  | .hbm, ⟨4, _⟩ => ⟨S1024x1024, .f32⟩
  | .hbm, ⟨5, _⟩ => ⟨S1024, .f32⟩
  | .hbm, ⟨6, _⟩ => ⟨S1024x3072, .f32⟩
  | .hbm, ⟨7, _⟩ => ⟨S2x2048x3072, .f32⟩
  | .hbm, ⟨8, _⟩ => ⟨S2x2048x3x16x64, .f32⟩
  | .hbm, ⟨9, _⟩ => ⟨S3x2x16x2048x64, .f32⟩
  | .hbm, ⟨10, _⟩ => ⟨S1x2x16x2048x64, .f32⟩
  | .hbm, ⟨11, _⟩ => ⟨S2x16x2048x64, .f32⟩
  | .hbm, ⟨12, _⟩ => ⟨S1x2x16x2048x64, .f32⟩
  | .hbm, ⟨13, _⟩ => ⟨S2x16x2048x64, .f32⟩
  | .hbm, ⟨14, _⟩ => ⟨S1x2x16x2048x64, .f32⟩
  | .hbm, ⟨15, _⟩ => ⟨S2x16x2048x64, .f32⟩
  | .hbm, ⟨16, _⟩ => ⟨S2x16x64x2048, .f32⟩
  | .hbm, ⟨17, _⟩ => ⟨S2x16x2048x2048, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S1024x1024, .f32⟩
  | .hbm, ⟨39, _⟩ => ⟨S2x2048x1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proof.Tile.lean ====
module

public import proofs.«01_k».proof.Proof.Gen.KernelIdeal.Skeleton
public import Idealize.ShloMosaic.Lib.Pointwise

/-!
One point of the grid, as pure functions of its blocks.

A point multiplies its sequence of 2048 rows by 768 weight rows (four heads, and for each head 64 query rows, 64 key
rows and 64 value rows), and computes for every head the attention of 256 query rows at a time against all 2048 keys.
Here the attention of one head over one block of rows is written once, the block's first row a parameter, and read at
an index as a formula over the extended reals.
-/

@[expose] public section

set_option maxRecDepth 16384

noncomputable section

namespace Cert.KernelIdeal.Val

open Idealize.ShloMosaic
open Cert.KernelIdeal Cert.KernelIdeal.Gen
open Cert.KernelIdeal.Facts

variable {F : FTy → Type} [FloatOps F] [Named F]

/-- The product of a sequence with a group's weights: every query, key and value of four heads. -/
def prod (x : Vec F S1x2048x1024 .bf16) (w : Vec F S1x768x1024 .bf16) : FVec F S2048x768 .f32 :=
  matmul dot_S2048x1024_S768x1024_S2048x768_1_1_0_0_n_n none (shapeCast S2048x1024 x shapeCasts_S1x2048x1024_S2048x1024)
    (shapeCast S768x1024 w shapeCasts_S1x768x1024_S768x1024) (constant S2048x768 .f32 0x00000000#32)

/-- 64 columns of that product, from column `a` on. -/
def cols (a : Nat) (h : S2048x768.Slices ![0, a] S2048x64) (z : FVec F S2048x768 .f32) : FVec F S2048x64 .bf16 :=
  truncf .bf16 (extractStridedSlice S2048x64 ![0, a] z h) bitsLt_bf16_f32

/-- 64 columns of that product, each multiplied by the scale of the scores. -/
def scaledCols (a : Nat) (h : S2048x768.Slices ![0, a] S2048x64) (z : FVec F S2048x768 .f32) : FVec F S2048x64 .bf16 :=
  truncf .bf16 (mulf (extractStridedSlice S2048x64 ![0, a] z h)
    (broadcast S2048x64 (Named.named κ "scale" 0x3E38AA3B#32))) bitsLt_bf16_f32

/-- The weights, before they are divided by their sum, of the 256 query rows from row `o` on. -/
def weights (o : Nat) (h : S2048x64.Slices ![o, 0] S256x64) (q k : FVec F S2048x64 .bf16) : FVec F S256x2048 .f32 :=
  exp2 (matmul dot_S256x64_S2048x64_S256x2048_1_1_0_0_n_n none (extractStridedSlice S256x64 ![o, 0] q h) k
    (constant S256x2048 .f32 0x00000000#32))

/-- One head's attention for the 256 query rows from row `o` on. -/
def headTile (o : Nat) (h : S2048x64.Slices ![o, 0] S256x64) (q k v : FVec F S2048x64 .bf16) : FVec F S256x64 .bf16 :=
  truncf .bf16 (mulf
    (matmul dot_S256x2048_S2048x64_S256x64_1_0_0_1_n_n none (truncf .bf16 (weights o h q k) bitsLt_bf16_f32) v
      (constant S256x64 .f32 0x00000000#32))
    (broadcastTo S256x64
      (divf (broadcast S256x1 (Scalar.ofBits .f32 0x3F800000#32))
        (shapeCast S256x1 (multiReduction .add [1] S256 (weights o h q k) 0x00000000#32 reduces_S256x2048_S256 (.inl rfl) rfl)
          shapeCasts_S256_S256x1))
      broadcasts_S256x1_S256x64)) bitsLt_bf16_f32

/-- The four heads of a group side by side, for the 256 query rows from row `o` on: what one store puts in the scratch. -/
def rowTile (o : Nat) (h : S2048x64.Slices ![o, 0] S256x64) (x : Vec F S1x2048x1024 .bf16) (w : Vec F S1x768x1024 .bf16) :
    FVec F S256x256 .bf16 :=
  shapeCast S256x256 (concatenate S256x256 1
    [⟨S256x64, headTile o h (scaledCols 0 slices_S2048x768_o0_0_S2048x64 (prod x w)) (cols 64 slices_S2048x768_o0_64_S2048x64 (prod x w)) (cols 128 slices_S2048x768_o0_128_S2048x64 (prod x w))⟩,
     ⟨S256x64, headTile o h (scaledCols 192 slices_S2048x768_o0_192_S2048x64 (prod x w)) (cols 256 slices_S2048x768_o0_256_S2048x64 (prod x w)) (cols 320 slices_S2048x768_o0_320_S2048x64 (prod x w))⟩,
     ⟨S256x64, headTile o h (scaledCols 384 slices_S2048x768_o0_384_S2048x64 (prod x w)) (cols 448 slices_S2048x768_o0_448_S2048x64 (prod x w)) (cols 512 slices_S2048x768_o0_512_S2048x64 (prod x w))⟩,
     ⟨S256x64, headTile o h (scaledCols 576 slices_S2048x768_o0_576_S2048x64 (prod x w)) (cols 640 slices_S2048x768_o0_640_S2048x64 (prod x w)) (cols 704 slices_S2048x768_o0_704_S2048x64 (prod x w))⟩]
    concatenates_S256x64_S256x64_S256x64_S256x64_S256x256_d1) shapeCasts_S256x256_S256x256

/-- 256 rows of the scratch through the output projection: what one store puts in the output's block. -/
def outTile (a : Vec F S256x1024 .bf16) (pw : Vec F S1024x1024 .bf16) (pb : Vec F S1x1024 .f32) : FVec F S1x256x1024 .bf16 :=
  shapeCast S1x256x1024 (truncf .bf16 (addf
    (matmul dot_S256x1024_S1024x1024_S256x1024_1_1_0_0_n_n none a
      (shapeCast S1024x1024 pw shapeCasts_S1024x1024_S1024x1024) (constant S256x1024 .f32 0x00000000#32))
    (broadcastTo S256x1024 (shapeCast S1x1024 (shapeCast S1024 pb shapeCasts_S1x1024_S1024) shapeCasts_S1024_S1x1024)
      broadcasts_S1x1024_S256x1024)) bitsLt_bf16_f32) shapeCasts_S256x1024_S1x256x1024

/-! ### Read at an index, over the extended reals -/

/-- Row `r` of the sequence against row `j` of the group's weights. -/
def dotRow (x : Vec Ideal S1x2048x1024 .bf16) (w : Vec Ideal S1x768x1024 .bf16) (r : Fin 2048) (j : Fin 768) : EReal :=
  ∑ c : Fin 1024, x (ix3 0 r c) * w (ix3 0 j c)

theorem prod_apply (x : Vec Ideal S1x2048x1024 .bf16) (w : Vec Ideal S1x768x1024 .bf16) (r : Fin 2048) (j : Fin 768) :
    prod x w (ix2 r j) = dotRow x w r j := by
  pointwise [prod, dotRow]

/-- Column `d` of the queries (`p = 0`), keys (`p = 1`) or values (`p = 2`) of a group's head `e`, among the group's 768. -/
def colOf (e : Fin 4) (p : Fin 3) (d : Fin 64) : Fin 768 := ⟨192 * e.val + 64 * p.val + d.val, by omega⟩

/-- The factor of the scores: `log₂ e / 8`. -/
def scale : EReal := (((Real.log 2)⁻¹ * (1 / 8) : ℝ) : EReal)

/-- The kernel's named constant is that number. -/
theorem named_scale : Named.named (F := Ideal) κ "scale" (φ := .f32) 0x3E38AA3B#32 = scale :=
  IdealRules.named_const.ideal_named_scalar κ "scale" (φ := .f32) 0x3E38AA3B#32 _ rfl

theorem cols_apply (a : Nat) (h : S2048x768.Slices ![0, a] S2048x64) (z : FVec Ideal S2048x768 .f32) (r : Fin 2048)
    (d : Fin 64) (j : Fin 768) (hj : j.val = a + d.val) : cols a h z (ix2 r d) = z (ix2 r j) := by
  pointwise [cols]
  exact congrArg z (congrArg (ix2 r) (Fin.ext hj.symm))

theorem scaledCols_apply (a : Nat) (h : S2048x768.Slices ![0, a] S2048x64) (z : FVec Ideal S2048x768 .f32) (r : Fin 2048)
    (d : Fin 64) (j : Fin 768) (hj : j.val = a + d.val) : scaledCols a h z (ix2 r d) = z (ix2 r j) * scale := by
  pointwise [scaledCols]
  rw [named_scale]
  exact congrArg (· * scale) (congrArg z (congrArg (ix2 r) (Fin.ext hj.symm)))

theorem weights_apply (o : Nat) (h : S2048x64.Slices ![o, 0] S256x64) (q k : FVec Ideal S2048x64 .bf16) (a : Fin 256)
    (r' : Fin 2048) (r : Fin 2048) (hr : r.val = o + a.val) :
    weights o h q k (ix2 a r') = Ideal.exp2 (∑ d : Fin 64, q (ix2 r d) * k (ix2 r' d)) := by
  pointwise [weights]
  refine congrArg Ideal.exp2 (Finset.sum_congr rfl fun d _ => congrArg (· * _) (congrArg q ?_))
  exact congrArg (ix2 · d) (Fin.ext hr.symm)

theorem headTile_apply (o : Nat) (h : S2048x64.Slices ![o, 0] S256x64) (q k v : FVec Ideal S2048x64 .bf16) (a : Fin 256)
    (d : Fin 64) :
    headTile o h q k v (ix2 a d)
      = (∑ r' : Fin 2048, weights o h q k (ix2 a r') * v (ix2 r' d)) * Ideal.div 1 (∑ r' : Fin 2048, weights o h q k (ix2 a r')) := by
  pointwise [headTile]

/-- The weight, before it is divided by the sum of its row, of key `r'` for query `r` in the group's head `e`. -/
def weight (x : Vec Ideal S1x2048x1024 .bf16) (w : Vec Ideal S1x768x1024 .bf16) (e : Fin 4) (r r' : Fin 2048) : EReal :=
  Ideal.exp2 (∑ d : Fin 64, dotRow x w r (colOf e 0 d) * scale * dotRow x w r' (colOf e 1 d))

/-- The group's head `e` at query row `r` and column `d`: the weighted sum of the values times the reciprocal of the
    sum of the weights. -/
def headVal (x : Vec Ideal S1x2048x1024 .bf16) (w : Vec Ideal S1x768x1024 .bf16) (e : Fin 4) (r : Fin 2048) (d : Fin 64) : EReal :=
  (∑ r' : Fin 2048, weight x w e r r' * dotRow x w r' (colOf e 2 d)) * Ideal.div 1 (∑ r' : Fin 2048, weight x w e r r')

/-- One head's tile is that formula, wherever its three blocks of columns are the head's. -/
theorem headTile_eq (x : Vec Ideal S1x2048x1024 .bf16) (w : Vec Ideal S1x768x1024 .bf16) (e : Fin 4) (o : Nat)
    (h : S2048x64.Slices ![o, 0] S256x64) (q k v : Nat) (hq : S2048x768.Slices ![0, q] S2048x64)
    (hk : S2048x768.Slices ![0, k] S2048x64) (hv : S2048x768.Slices ![0, v] S2048x64) (eq : q = 192 * e.val)
    (ek : k = 192 * e.val + 64) (ev : v = 192 * e.val + 128) (a : Fin 256) (d : Fin 64) (r : Fin 2048) (hr : r.val = o + a.val) :
    headTile o h (scaledCols q hq (prod x w)) (cols k hk (prod x w)) (cols v hv (prod x w)) (ix2 a d) = headVal x w e r d := by
  have hw : ∀ r' : Fin 2048, weights o h (scaledCols q hq (prod x w)) (cols k hk (prod x w)) (ix2 a r') = weight x w e r r' := by
    intro r'
    rw [weights_apply o h _ _ a r' r hr]
    refine congrArg Ideal.exp2 (Finset.sum_congr rfl fun c _ => ?_)
    rw [scaledCols_apply q hq _ r c (colOf e 0 c) (by simp [colOf, eq]), cols_apply k hk _ r' c (colOf e 1 c) (by simp [colOf, ek]),
      prod_apply, prod_apply]
  rw [headTile_apply]
  simp only [hw, headVal]
  refine congrArg (· * _) (Finset.sum_congr rfl fun r' _ => ?_)
  rw [cols_apply v hv _ r' d (colOf e 2 d) (by simp [colOf, ev]), prod_apply]

/-- A tile of the scratch at row `a` and column `b`: column `b % 64` of head `b / 64`, for query `o + a`. -/
theorem rowTile_apply (x : Vec Ideal S1x2048x1024 .bf16) (w : Vec Ideal S1x768x1024 .bf16) (o : Nat)
    (h : S2048x64.Slices ![o, 0] S256x64) (a b : Fin 256) (r : Fin 2048) (hr : r.val = o + a.val) :
    rowTile o h x w (ix2 a b) = headVal x w ⟨b.val / 64, by omega⟩ r ⟨b.val % 64, by omega⟩ := by
  have pick : ∀ (e : Fin 4) (d : Fin 64), b.val = 64 * e.val + d.val →
      headVal x w e r d = headVal x w ⟨b.val / 64, by omega⟩ r ⟨b.val % 64, by omega⟩ := fun e d hb => by
    have he : e = ⟨b.val / 64, by omega⟩ := Fin.ext (by simp only; omega)
    have hd : d = ⟨b.val % 64, by omega⟩ := Fin.ext (by simp only; omega)
    rw [← he, ← hd]
  pointwise [rowTile]
  by_cases h1 : b.val < 64
  · rw [dif_pos h1, headTile_eq x w 0 o h _ _ _ _ _ _ (by decide) (by decide) (by decide) a _ r hr]
    exact pick 0 ⟨b.val, h1⟩ (by simp)
  rw [dif_neg h1]
  by_cases h2 : b.val - 64 < 64
  · rw [dif_pos h2, headTile_eq x w 1 o h _ _ _ _ _ _ (by decide) (by decide) (by decide) a _ r hr]
    exact pick 1 ⟨b.val - 64, h2⟩ (by simp; omega)
  rw [dif_neg h2]
  by_cases h3 : b.val - 64 - 64 < 64
  · rw [dif_pos h3, headTile_eq x w 2 o h _ _ _ _ _ _ (by decide) (by decide) (by decide) a _ r hr]
    exact pick 2 ⟨b.val - 64 - 64, h3⟩ (by simp; omega)
  rw [dif_neg h3, headTile_eq x w 3 o h _ _ _ _ _ _ (by decide) (by decide) (by decide) a _ r hr]
  exact pick 3 ⟨b.val - 64 - 64 - 64, by omega⟩ (by simp; omega)

theorem outTile_apply (a : Vec Ideal S256x1024 .bf16) (pw : Vec Ideal S1024x1024 .bf16) (pb : Vec Ideal S1x1024 .f32)
    (r : Fin 256) (j : Fin 1024) :
    outTile a pw pb (ix3 0 r j) = (∑ c : Fin 1024, a (ix2 r c) * pw (ix2 j c)) + pb (ix2 0 j) := by
  pointwise [outTile]

end Cert.KernelIdeal.Val
end
-- ==== Proof.Body.lean ====
module

public import proofs.«01_k».proof.Proof.Gen.KernelIdeal.Frame
public import proofs.«01_k».proof.Proof.Tile
public import Idealize.ShloMosaic.Lib.Pipeline.ValueKit.Tiles

/-!
The kernel's body at one grid point, as a triple.

The body runs on blocks of any contents. What it leaves in the scratch, and at a batch's last group in the output's
block, is said by the list of its eight stores, each the tile of Proof/Tile.lean at its place.
-/

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts

variable {F : FTy → Type} [FloatOps F] [Named F]

local notation "𝕄" => MT nD τ sig Unit (Elt F) ℕ (UR sig nD τ) ℕ

/-- A load of the whole of a buffer reads what the buffer holds. -/
theorem load_whole {S : Shape} {e : EltTy} (mr : Memref sig .tc .vmem S e) (h : mr.IsWhole) (off : Fin S.rank → Nat)
    (inb : ∀ a, off a + S.size a ≤ S.size a) (h0 : ∀ a, off a = 0) (X : Vec F S e) :
    mr.view.readAt (Elt F) (Rect.unit off S.size inb).toLoadRect (h.unread X) = X := by
  rw [View.readAt_eq_ld, h.read_unread]
  exact View.ld_unit_lit' _ _ h0

/-- The eight stores into the scratch, the last first: 256 rows each, in the 256 columns of the point's group. -/
def scratchStores (i : grid0.Coords) (x : Vec F S1x2048x1024 .bf16) (w : Vec F S1x768x1024 .bf16) :
    List (View.Piece (Elt F) S2048x1024 .bf16) :=
  [⟨Rect.unit (k0_off8 i) S256x256.size (k0_off8_inb i), rowTile 1792 slices_S2048x64_o1792_0_S256x64 x w⟩,
   ⟨Rect.unit (k0_off7 i) S256x256.size (k0_off7_inb i), rowTile 1536 slices_S2048x64_o1536_0_S256x64 x w⟩,
   ⟨Rect.unit (k0_off6 i) S256x256.size (k0_off6_inb i), rowTile 1280 slices_S2048x64_o1280_0_S256x64 x w⟩,
   ⟨Rect.unit (k0_off5 i) S256x256.size (k0_off5_inb i), rowTile 1024 slices_S2048x64_o1024_0_S256x64 x w⟩,
   ⟨Rect.unit (k0_off4 i) S256x256.size (k0_off4_inb i), rowTile 768 slices_S2048x64_o768_0_S256x64 x w⟩,
   ⟨Rect.unit (k0_off3 i) S256x256.size (k0_off3_inb i), rowTile 512 slices_S2048x64_o512_0_S256x64 x w⟩,
   ⟨Rect.unit (k0_off2 i) S256x256.size (k0_off2_inb i), rowTile 256 slices_S2048x64_o256_0_S256x64 x w⟩,
   ⟨Rect.unit (k0_off1 i) S256x256.size (k0_off1_inb i), rowTile 0 slices_S2048x64_o0_0_S256x64 x w⟩]

/-- The eight stores into the output's block, the last first: 256 rows of the scratch each, through the projection. -/
def outStores (s : Vec F S2048x1024 .bf16) (pw : Vec F S1024x1024 .bf16) (pb : Vec F S1x1024 .f32) :
    List (View.Piece (Elt F) S1x2048x1024 .bf16) :=
  [⟨Rect.unit ![0, 1792, 0] S1x256x1024.size inb_S1x2048x1024_S1x256x1024_0_1792_0,
     outTile (View.ld s (Rect.unit ![1792, 0] S256x1024.size inb_S2048x1024_S256x1024_1792_0)) pw pb⟩,
   ⟨Rect.unit ![0, 1536, 0] S1x256x1024.size inb_S1x2048x1024_S1x256x1024_0_1536_0,
     outTile (View.ld s (Rect.unit ![1536, 0] S256x1024.size inb_S2048x1024_S256x1024_1536_0)) pw pb⟩,
   ⟨Rect.unit ![0, 1280, 0] S1x256x1024.size inb_S1x2048x1024_S1x256x1024_0_1280_0,
     outTile (View.ld s (Rect.unit ![1280, 0] S256x1024.size inb_S2048x1024_S256x1024_1280_0)) pw pb⟩,
   ⟨Rect.unit ![0, 1024, 0] S1x256x1024.size inb_S1x2048x1024_S1x256x1024_0_1024_0,
     outTile (View.ld s (Rect.unit ![1024, 0] S256x1024.size inb_S2048x1024_S256x1024_1024_0)) pw pb⟩,
   ⟨Rect.unit ![0, 768, 0] S1x256x1024.size inb_S1x2048x1024_S1x256x1024_0_768_0,
     outTile (View.ld s (Rect.unit ![768, 0] S256x1024.size inb_S2048x1024_S256x1024_768_0)) pw pb⟩,
   ⟨Rect.unit ![0, 512, 0] S1x256x1024.size inb_S1x2048x1024_S1x256x1024_0_512_0,
     outTile (View.ld s (Rect.unit ![512, 0] S256x1024.size inb_S2048x1024_S256x1024_512_0)) pw pb⟩,
   ⟨Rect.unit ![0, 256, 0] S1x256x1024.size inb_S1x2048x1024_S1x256x1024_0_256_0,
     outTile (View.ld s (Rect.unit ![256, 0] S256x1024.size inb_S2048x1024_S256x1024_256_0)) pw pb⟩,
   ⟨Rect.unit ![0, 0, 0] S1x256x1024.size inb_S1x2048x1024_S1x256x1024_0_0_0,
     outTile (View.ld s (Rect.unit ![0, 0] S256x1024.size inb_S2048x1024_S256x1024_0_0)) pw pb⟩]

set_option maxHeartbeats 1000000 in
/-- A point that is not its batch's last: the scratch takes the eight tiles, the output's block is left as it was. -/
theorem body_inner (c : Dev nD) (i : grid0.Coords)
    (arg2 : Memref sig .tc .vmem S1x2048x1024 .bf16) (harg2 : arg2.IsWhole) (arg3 : Memref sig .tc .vmem S1x768x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1x2048x1024 .bf16) (harg6 : arg6.IsWhole) (arg7 : Memref sig .tc .vmem S2048x1024 .bf16) (harg7 : arg7.IsWhole)
    (hc : ¬k0_cond1 i = 1#1) (x0 : Vec F S1x2048x1024 .bf16) (x1 : Vec F S1x768x1024 .bf16)
    (x2 : Vec F S1024x1024 .bf16) (x3 : Vec F S1x1024 .f32) (o : Vec F S1x2048x1024 .bf16) (s : Vec F S2048x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare o ∗ owns (c : Thread nD τ) arg7 fullShare s
            ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare o
            ∗ owns (c : Thread nD τ) arg7 fullShare (arg7.view.read (Elt F) (arg7.view.writes (Elt F) (harg7.unread s) (scratchStores i x0 x1)))) -∗ K ⟨⟩))
          ⊢ wp frame (wpE (defs₀ (F := F)) Variants.none c none) E (cc0__mha_kernel i arg2 harg2 arg3 harg3 arg4 harg4 arg5 harg5 arg6 harg6 arg7 harg7) K := by
  intro E K
  simp only [cc0__mha_kernel_eq_skeleton]; unfold cc0__mha_kernel_skel
  simp only [k0_part13_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact hf4
    iexact H4
  iexists _; isplitr; swap; · iexact HS
  ipureintro
  refine congrArg (fun L => arg7.view.read (Elt F) (arg7.view.writes (Elt F) (harg7.unread s) L)) ?_
  sl_unfold_words
  exact congrArg₂ (scratchStores i) (load_whole arg2 harg2 _ _ (by decide) x0) (load_whole arg3 harg3 _ _ (by decide) x1)

set_option maxHeartbeats 1000000 in
/-- A batch's last point: the scratch takes the eight tiles, then the output's block takes the scratch's rows, tiles
    included, through the projection. -/
theorem body_last (c : Dev nD) (i : grid0.Coords)
    (arg2 : Memref sig .tc .vmem S1x2048x1024 .bf16) (harg2 : arg2.IsWhole) (arg3 : Memref sig .tc .vmem S1x768x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1x2048x1024 .bf16) (harg6 : arg6.IsWhole) (arg7 : Memref sig .tc .vmem S2048x1024 .bf16) (harg7 : arg7.IsWhole)
    (hc : k0_cond1 i = 1#1) (x0 : Vec F S1x2048x1024 .bf16) (x1 : Vec F S1x768x1024 .bf16)
    (x2 : Vec F S1024x1024 .bf16) (x3 : Vec F S1x1024 .f32) (s : Vec F S2048x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3
            ∗ (∃ d, owns (c : Thread nD τ) arg6 fullShare d) ∗ owns (c : Thread nD τ) arg7 fullShare s
            ∗ (iprop(owns (c : Thread nD τ) arg2 fullShare x0 ∗ owns (c : Thread nD τ) arg3 fullShare x1 ∗ owns (c : Thread nD τ) arg4 fullShare x2
            ∗ owns (c : Thread nD τ) arg5 fullShare x3
            ∗ (∃ f, owns (c : Thread nD τ) arg6 fullShare (arg6.view.read (Elt F) (arg6.view.writes (Elt F) f (outStores
                (arg7.view.read (Elt F) (arg7.view.writes (Elt F) (harg7.unread s) (scratchStores i x0 x1))) x2 x3))))
            ∗ owns (c : Thread nD τ) arg7 fullShare (arg7.view.read (Elt F) (arg7.view.writes (Elt F) (harg7.unread s) (scratchStores i x0 x1)))) -∗ K ⟨⟩))
          ⊢ wp frame (wpE (defs₀ (F := F)) Variants.none c none) E (cc0__mha_kernel i arg2 harg2 arg3 harg3 arg4 harg4 arg5 harg5 arg6 harg6 arg7 harg7) K := by
  intro E K
  simp only [cc0__mha_kernel_eq_skeleton]; unfold cc0__mha_kernel_skel
  simp only [k0_part13_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists f4, _; isplitr; swap; · iexact H4
    ipureintro
    refine congrArg (fun L => arg6.view.read (Elt F) (arg6.view.writes (Elt F) f4 L)) ?_
    have hs := congrArg₂ (scratchStores i) (load_whole arg2 harg2 ![0, 0, 0] inb_S1x2048x1024_S1x2048x1024_0_0_0 (by decide) x0)
      (load_whole arg3 harg3 ![0, 0, 0] inb_S1x768x1024_S1x768x1024_0_0_0 (by decide) x1)
    rw [← hs]
    sl_unfold_words
    exact congrArg₂ (outStores _) (load_whole arg4 harg4 _ _ (by decide) x2) (load_whole arg5 harg5 _ _ (by decide) x3)
  iexists _; isplitr; swap; · iexact HS
  ipureintro
  refine congrArg (fun L => arg7.view.read (Elt F) (arg7.view.writes (Elt F) (harg7.unread s) L)) ?_
  sl_unfold_words
  exact congrArg₂ (scratchStores i) (load_whole arg2 harg2 _ _ (by decide) x0) (load_whole arg3 harg3 _ _ (by decide) x1)

end Cert.KernelIdeal.Val
end
-- ==== Proof.Stores.lean ====
module

public import proofs.«01_k».proof.Proof.Body

/-!
What the stores of a point leave, at every index.

The scratch has, after a point's eight stores, the point's group in the group's 256 columns and what it had before in
the others (`scratch_after`). The output's block has, after a last point's eight stores, the scratch's rows through the
output projection (`out_after`).
-/

@[expose] public section

set_option maxRecDepth 16384

noncomputable section

namespace Cert.KernelIdeal.Val

open Idealize.ShloMosaic
open Cert.KernelIdeal Cert.KernelIdeal.Gen
open Cert.KernelIdeal.Facts

/-- The scratch with group `g`'s four heads put in its 256 columns. -/
def grow (g : Nat) (x : Vec Ideal S1x2048x1024 .bf16) (w : Vec Ideal S1x768x1024 .bf16) (s : Vec Ideal S2048x1024 .bf16) :
    Vec Ideal S2048x1024 .bf16 := fun y =>
  if h : 256 * g ≤ (y 1).val ∧ (y 1).val < 256 * g + 256 then
    headVal x w ⟨((y 1).val - 256 * g) / 64, by omega⟩ (y 0) ⟨((y 1).val - 256 * g) % 64, by omega⟩
  else s y

/-- The output's block: every row of the scratch through the projection, plus the bias. -/
def outBlock (s : Vec Ideal S2048x1024 .bf16) (pw : Vec Ideal S1024x1024 .bf16) (pb : Vec Ideal S1x1024 .f32) :
    Vec Ideal S1x2048x1024 .bf16 := fun y =>
  (∑ c : Fin 1024, (s (ix2 (y 1) c) : EReal) * pw (ix2 (y 2) c)) + pb (ix2 0 (y 2))

/-- The indices of a tile of the scratch. -/
theorem inTile (o g : Nat) (off : Fin 2 → Nat) (hoff : off = ![o, 256 * g])
    (inb : ∀ a, off a + (![256, 256] : Fin 2 → Nat) a ≤ S2048x1024.size a) (y : S2048x1024.Idx) :
    y ∈ (Rect.unit (s := S2048x1024) off ![256, 256] inb).set
      ↔ (o ≤ (y 0).val ∧ (y 0).val < o + 256) ∧ (256 * g ≤ (y 1).val ∧ (y 1).val < 256 * g + 256) := by
  subst hoff
  exact Rect.mem_set_unit.trans Fin.forall_fin_two

/-- The indices of 256 rows of the output's block. -/
theorem inRows (o : Nat) (inb : ∀ a, (![0, o, 0] : Fin 3 → Nat) a + (![1, 256, 1024] : Fin 3 → Nat) a ≤ S1x2048x1024.size a)
    (y : S1x2048x1024.Idx) :
    y ∈ (Rect.unit (s := S1x2048x1024) ![0, o, 0] ![1, 256, 1024] inb).set ↔ o ≤ (y 1).val ∧ (y 1).val < o + 256 := by
  rw [Rect.mem_set_unit]
  constructor
  · exact fun h => h 1
  · intro h a
    match a with
    | 0 => exact ⟨Nat.zero_le _, (y 0).isLt⟩
    | 1 => exact h
    | 2 => exact ⟨Nat.zero_le _, (Nat.zero_add 1024).symm ▸ (y 2).isLt⟩

/-- A tile in its place is the grown scratch there. -/
theorem tile_grow (g o : Nat) (h : S2048x64.Slices ![o, 0] S256x64) (x : Vec Ideal S1x2048x1024 .bf16)
    (w : Vec Ideal S1x768x1024 .bf16) (s : Vec Ideal S2048x1024 .bf16) (off : Fin 2 → Nat) (hoff : off = ![o, 256 * g])
    (inb : ∀ a, off a + S256x256.size a ≤ S2048x1024.size a) (z : S256x256.Idx) :
    rowTile o h x w z = grow g x w s ((Rect.unit (s := S2048x1024) off S256x256.size inb).emb z) := by
  subst hoff
  have e0 : (((Rect.unit (s := S2048x1024) ![o, 256 * g] S256x256.size inb).emb z) 0).val = o + (z 0).val :=
    by rw [Rect.emb_apply]; show o + 1 * (z 0).val = _; omega
  have e1 : (((Rect.unit (s := S2048x1024) ![o, 256 * g] S256x256.size inb).emb z) 1).val = 256 * g + (z 1).val :=
    by rw [Rect.emb_apply]; show 256 * g + 1 * (z 1).val = _; omega
  have hz : (z 1).val < 256 := (z 1).isLt
  generalize ((Rect.unit (s := S2048x1024) ![o, 256 * g] S256x256.size inb).emb z) = y at e0 e1
  have hc : 256 * g ≤ (y 1).val ∧ (y 1).val < 256 * g + 256 := by omega
  rw [eq_ix2 z, rowTile_apply x w o h (z 0) (z 1) (y 0) e0]
  simp only [grow, dif_pos hc]
  congr 2 <;> omega

/-- The scratch after a point's stores. -/
theorem scratch_after (i : grid0.Coords) (v : View sig .tc .vmem S2048x1024 .bf16) (f : v.ty.Contents (Elt Ideal))
    (x : Vec Ideal S1x2048x1024 .bf16) (w : Vec Ideal S1x768x1024 .bf16) :
    v.read (Elt Ideal) (v.writes (Elt Ideal) f (scratchStores i x w)) = grow (i 1).val x w (v.read (Elt Ideal) f) := by
  funext y
  have hy : (y 0).val < 2048 := (y 0).isLt
  by_cases hc : 256 * (i 1).val ≤ (y 1).val ∧ (y 1).val < 256 * (i 1).val + 256
  · refine View.read_writes_apply_of_pieces v f (grow (i 1).val x w (v.read (Elt Ideal) f)) _ ?_ y ?_
    · intro p hp
      simp only [scratchStores, List.mem_cons, List.not_mem_nil, or_false] at hp
      rcases hp with rfl | rfl | rfl | rfl | rfl | rfl | rfl | rfl <;> intro z
      · exact tile_grow _ _ _ _ _ _ _ (k0_off8_eq i) (k0_off8_inb i) z
      · exact tile_grow _ _ _ _ _ _ _ (k0_off7_eq i) (k0_off7_inb i) z
      · exact tile_grow _ _ _ _ _ _ _ (k0_off6_eq i) (k0_off6_inb i) z
      · exact tile_grow _ _ _ _ _ _ _ (k0_off5_eq i) (k0_off5_inb i) z
      · exact tile_grow _ _ _ _ _ _ _ (k0_off4_eq i) (k0_off4_inb i) z
      · exact tile_grow _ _ _ _ _ _ _ (k0_off3_eq i) (k0_off3_inb i) z
      · exact tile_grow _ _ _ _ _ _ _ (k0_off2_eq i) (k0_off2_inb i) z
      · exact tile_grow _ _ _ _ _ _ _ (k0_off1_eq i) (k0_off1_inb i) z
    · simp only [scratchStores, List.mem_cons, exists_eq_or_imp, List.not_mem_nil, false_and, exists_false, or_false, exists_eq_left,
        inTile _ _ _ (k0_off1_eq i), inTile _ _ _ (k0_off2_eq i), inTile _ _ _ (k0_off3_eq i), inTile _ _ _ (k0_off4_eq i), inTile _ _ _ (k0_off5_eq i), inTile _ _ _ (k0_off6_eq i), inTile _ _ _ (k0_off7_eq i), inTile _ _ _ (k0_off8_eq i)]
      omega
  · rw [View.read_writes_apply_of_forall_not_mem]
    · simp only [grow, dif_neg hc]
    · simp only [scratchStores, List.forall_mem_cons, List.not_mem_nil, false_imp_iff, implies_true, and_true,
        inTile _ _ _ (k0_off1_eq i), inTile _ _ _ (k0_off2_eq i), inTile _ _ _ (k0_off3_eq i), inTile _ _ _ (k0_off4_eq i), inTile _ _ _ (k0_off5_eq i), inTile _ _ _ (k0_off6_eq i), inTile _ _ _ (k0_off7_eq i), inTile _ _ _ (k0_off8_eq i)]
      omega

/-- 256 rows through the projection, in their place, are the output's block there. -/
theorem tile_out (o : Nat) (s : Vec Ideal S2048x1024 .bf16) (pw : Vec Ideal S1024x1024 .bf16) (pb : Vec Ideal S1x1024 .f32)
    (inb : ∀ a, (![o, 0] : Fin 2 → Nat) a + S256x1024.size a ≤ S2048x1024.size a)
    (inb' : ∀ a, (![0, o, 0] : Fin 3 → Nat) a + S1x256x1024.size a ≤ S1x2048x1024.size a) (z : S1x256x1024.Idx) :
    outTile (View.ld (Val := Elt Ideal) (e' := .bf16) s (Rect.unit ![o, 0] S256x1024.size inb)) pw pb z
      = outBlock s pw pb ((Rect.unit (s := S1x2048x1024) ![0, o, 0] S1x256x1024.size inb').emb z) := by
  have e1 : (((Rect.unit (s := S1x2048x1024) ![0, o, 0] S1x256x1024.size inb').emb z) 1).val = o + (z 1).val :=
    by rw [Rect.emb_apply]; show o + 1 * (z 1).val = _; omega
  have e2 : (((Rect.unit (s := S1x2048x1024) ![0, o, 0] S1x256x1024.size inb').emb z) 2).val = (z 2).val :=
    by rw [Rect.emb_apply]; show 0 + 1 * (z 2).val = _; omega
  generalize ((Rect.unit (s := S1x2048x1024) ![0, o, 0] S1x256x1024.size inb').emb z) = y at e1 e2
  obtain ⟨z0, z1, z2, rfl⟩ : ∃ (z0 : Fin 1) (z1 : Fin 256) (z2 : Fin 1024), z = ix3 z0 z1 z2 := ⟨z 0, z 1, z 2, eq_ix3 z⟩
  obtain ⟨y0, y1, y2, rfl⟩ : ∃ (y0 : Fin 1) (y1 : Fin 2048) (y2 : Fin 1024), y = ix3 y0 y1 y2 := ⟨y 0, y 1, y 2, eq_ix3 y⟩
  obtain rfl : z0 = 0 := Subsingleton.elim _ _
  have e2' : y2 = z2 := Fin.ext e2
  rw [outTile_apply]
  show _ = (∑ c : Fin 1024, (s (ix2 y1 c) : EReal) * pw (ix2 y2 c)) + pb (ix2 0 y2)
  rw [e2']
  refine congrArg (· + _) (Finset.sum_congr rfl fun c _ => congrArg (· * _) ?_)
  refine View.ld_unit_apply_of s _ _ inb (ix2 z1 c) (ix2 y1 c) fun a => ?_
  match a with
  | 0 => exact e1
  | 1 => exact (Nat.zero_add _).symm

/-- The output's block after a last point's stores, whatever it held before. -/
theorem out_after (v : View sig .tc .vmem S1x2048x1024 .bf16) (f : v.ty.Contents (Elt Ideal)) (s : Vec Ideal S2048x1024 .bf16)
    (pw : Vec Ideal S1024x1024 .bf16) (pb : Vec Ideal S1x1024 .f32) :
    v.read (Elt Ideal) (v.writes (Elt Ideal) f (outStores s pw pb)) = outBlock s pw pb := by
  funext y
  have hy1 : (y 1).val < 2048 := (y 1).isLt
  refine View.read_writes_apply_of_pieces v f (outBlock s pw pb) _ ?_ y ?_
  · intro p hp
    simp only [outStores, List.mem_cons, List.not_mem_nil, or_false] at hp
    rcases hp with rfl | rfl | rfl | rfl | rfl | rfl | rfl | rfl <;> intro z
    · exact tile_out 1792 s pw pb _ inb_S1x2048x1024_S1x256x1024_0_1792_0 z
    · exact tile_out 1536 s pw pb _ inb_S1x2048x1024_S1x256x1024_0_1536_0 z
    · exact tile_out 1280 s pw pb _ inb_S1x2048x1024_S1x256x1024_0_1280_0 z
    · exact tile_out 1024 s pw pb _ inb_S1x2048x1024_S1x256x1024_0_1024_0 z
    · exact tile_out 768 s pw pb _ inb_S1x2048x1024_S1x256x1024_0_768_0 z
    · exact tile_out 512 s pw pb _ inb_S1x2048x1024_S1x256x1024_0_512_0 z
    · exact tile_out 256 s pw pb _ inb_S1x2048x1024_S1x256x1024_0_256_0 z
    · exact tile_out 0 s pw pb _ inb_S1x2048x1024_S1x256x1024_0_0_0 z
  · simp only [outStores, List.mem_cons, exists_eq_or_imp, List.not_mem_nil, false_and, exists_false, or_false, exists_eq_left,
      inRows]
    omega

end Cert.KernelIdeal.Val
end
-- ==== Proof.Launch.lean ====
module

public import proofs.«01_k».proof.Proof.Stores

/-!
The run of the launch.

The grid runs over two batches and, inside a batch, over four groups of four heads. Between points the scratch holds the
attention of the batch's groups done so far (`Filled`), and the output's block is written at a batch's last point, when
all 1024 columns are there. So the run ends with every batch's block at the projection of its whole attention
(`run_launch`).
-/

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Cert.KernelIdeal.Facts

local notation "𝕄" => MT nD τ sig Unit (Elt Ideal) ℕ (UR sig nD τ) ℕ

variable (m : (ℓ : Loc nD τ sig) → Buf (Elt Ideal) ℓ) (ρ : Dev nD → PrngReg)

/-! ## The arrays the launch reads, block by block -/

/-- Batch `b`'s rows of the input. -/
def xBlk (c : Dev nD) (b : Fin 2) : Vec Ideal S1x2048x1024 .bf16 := fun y =>
  (V m c main_v6 : Vec Ideal S2x2048x1024 .bf16) (ix3 b (y 1) (y 2))

/-- Group `g`'s 768 rows of the regrouped weight. -/
def wBlk (c : Dev nD) (g : Fin 4) : Vec Ideal S1x768x1024 .bf16 := fun y =>
  (V m c main_v3 : Vec Ideal S4x768x1024 .bf16) (ix3 g (y 1) (y 2))

/-- The output projection's weight. -/
def pwBlk (c : Dev nD) : Vec Ideal S1024x1024 .bf16 := V m c main_v4

/-- The output projection's bias. -/
def pbBlk (c : Dev nD) : Vec Ideal S1x1024 .f32 := V m c main_v5

/-- The point's batch. -/
def batchOf (t : Fin cfg0.N) : Fin 2 := ⟨t.val / 4 % 2, Nat.mod_lt _ (by decide)⟩

/-- The point's group. -/
def groupOf (t : Fin cfg0.N) : Fin 4 := ⟨t.val % 4, Nat.mod_lt _ (by decide)⟩

theorem point_lt (t : Fin cfg0.N) : t.val < 8 := lt_of_lt_of_eq t.isLt (show cfg0.N = 8 from N_0)

theorem batch_coord (t : Fin grid0.N) : (grid0.coords t 0).val = t.val / 4 % 2 := Pipeline.Grid.coords_val t 0 (by decide) rfl
theorem group_coord (t : Fin grid0.N) : (grid0.coords t 1).val = t.val % 4 := by
  have h : (grid0.coords t 1).val = t.val / 1 % 4 := Pipeline.Grid.coords_val t 1 (by decide) rfl
  rw [h, Nat.div_one]

/-- A point is its batch's last exactly when the body's branch is taken. -/
theorem last_iff (t : Fin grid0.N) : k0_cond1 (grid0.coords t) = 1#1 ↔ t.val % 4 = 3 := by
  have ht : t.val < 8 := Nat.lt_of_lt_of_eq t.isLt N_0
  simp only [k0_cond1, group_coord]
  word_cmp

theorem corner0 : ∀ t : Fin grid0.N, win0_0.index t 0 = t.val / 4 % 2 ∧ win0_0.index t 1 = 0 ∧ win0_0.index t 2 = 0 := by decide +kernel
theorem corner1 : ∀ t : Fin grid0.N, win0_1.index t 0 = t.val % 4 ∧ win0_1.index t 1 = 0 ∧ win0_1.index t 2 = 0 := by decide +kernel
theorem corner2 : ∀ t : Fin grid0.N, win0_2.index t 0 = 0 ∧ win0_2.index t 1 = 0 := by decide +kernel
theorem corner3 : ∀ t : Fin grid0.N, win0_3.index t 0 = 0 ∧ win0_3.index t 1 = 0 := by decide +kernel
theorem corner4 : ∀ t : Fin grid0.N, win0_4.index t 0 = t.val / 4 % 2 ∧ win0_4.index t 1 = 0 ∧ win0_4.index t 2 = 0 := by decide +kernel

/-- The input's block at a point is its batch's rows. -/
theorem iblk_x (c : Dev nD) (t : Fin cfg0.N) : iblk m c 0 t = xBlk m c (batchOf t) := by
  obtain ⟨h0, h1, h2⟩ := corner0 t
  funext y
  unfold iblk xBlk
  rw [View.read_apply]
  show V m c main_v6 _ = V m c main_v6 _
  congr 1
  funext a
  apply Fin.ext
  match a with
  | ⟨0, _⟩ => show win0_0.index t 0 * 1 + 1 * (y 0).val = t.val / 4 % 2; have : (y 0).val < 1 := (y 0).isLt; omega
  | ⟨1, _⟩ => show win0_0.index t 1 * 2048 + 1 * (y 1).val = (y 1).val; omega
  | ⟨2, _⟩ => show win0_0.index t 2 * 1024 + 1 * (y 2).val = (y 2).val; omega

/-- The weight's block at a point is its group's rows. -/
theorem iblk_w (c : Dev nD) (t : Fin cfg0.N) : iblk m c 1 t = wBlk m c (groupOf t) := by
  obtain ⟨h0, h1, h2⟩ := corner1 t
  funext y
  unfold iblk wBlk
  rw [View.read_apply]
  show V m c main_v3 _ = V m c main_v3 _
  congr 1
  funext a
  apply Fin.ext
  match a with
  | ⟨0, _⟩ => show win0_1.index t 0 * 1 + 1 * (y 0).val = t.val % 4; have : (y 0).val < 1 := (y 0).isLt; omega
  | ⟨1, _⟩ => show win0_1.index t 1 * 768 + 1 * (y 1).val = (y 1).val; omega
  | ⟨2, _⟩ => show win0_1.index t 2 * 1024 + 1 * (y 2).val = (y 2).val; omega

/-- The projection's weight is read whole at every point. -/
theorem iblk_pw (c : Dev nD) (t : Fin cfg0.N) : iblk m c 2 t = pwBlk m c := by
  obtain ⟨h0, h1⟩ := corner2 t
  funext y
  unfold iblk pwBlk
  rw [View.read_apply]
  show V m c main_v4 _ = V m c main_v4 _
  congr 1
  funext a
  apply Fin.ext
  match a with
  | ⟨0, _⟩ => show win0_2.index t 0 * 1024 + 1 * (y 0).val = (y 0).val; omega
  | ⟨1, _⟩ => show win0_2.index t 1 * 1024 + 1 * (y 1).val = (y 1).val; omega

/-- The bias is read whole at every point. -/
theorem iblk_pb (c : Dev nD) (t : Fin cfg0.N) : iblk m c 3 t = pbBlk m c := by
  obtain ⟨h0, h1⟩ := corner3 t
  funext y
  unfold iblk pbBlk
  rw [View.read_apply]
  show V m c main_v5 _ = V m c main_v5 _
  congr 1
  funext a
  apply Fin.ext
  match a with
  | ⟨0, _⟩ => show win0_3.index t 0 * 1 + 1 * (y 0).val = (y 0).val; omega
  | ⟨1, _⟩ => show win0_3.index t 1 * 1024 + 1 * (y 1).val = (y 1).val; omega

/-! ## What the scratch holds -/

/-- Batch `b`'s attention, 16 heads of 64 columns side by side: column `256 g + 64 e + d` is head `e` of group `g`. -/
def attn (c : Dev nD) (b : Fin 2) : Vec Ideal S2048x1024 .bf16 := fun y =>
  have h : (y 1).val < 1024 := (y 1).isLt
  headVal (xBlk m c b) (wBlk m c ⟨(y 1).val / 256, by omega⟩) ⟨(y 1).val % 256 / 64, by omega⟩ (y 0) ⟨(y 1).val % 64, by omega⟩

/-- Before point `n` the scratch holds the attention of the groups its batch has done. -/
def Filled (c : Dev nD) (n : Nat) (s : Vec Ideal S2048x1024 .bf16) : Prop :=
  ∀ y : S2048x1024.Idx, (y 1).val < 256 * (n % 4) → s y = attn m c ⟨n / 4 % 2, Nat.mod_lt _ (by decide)⟩ y

/-- A point's tiles put its group's columns in place, and leave the earlier groups'. -/
theorem grow_apply (c : Dev nD) (t : Fin cfg0.N) (s : Vec Ideal S2048x1024 .bf16) (hs : Filled m c t.val s)
    (y : S2048x1024.Idx) (hy : (y 1).val < 256 * (t.val % 4) + 256) :
    grow (t.val % 4) (xBlk m c (batchOf t)) (wBlk m c (groupOf t)) s y = attn m c (batchOf t) y := by
  unfold grow
  by_cases h : 256 * (t.val % 4) ≤ (y 1).val ∧ (y 1).val < 256 * (t.val % 4) + 256
  · rw [dif_pos h]
    unfold attn
    have eg : groupOf t = ⟨(y 1).val / 256, by omega⟩ := Fin.ext (by show t.val % 4 = (y 1).val / 256; omega)
    have ee : (⟨((y 1).val - 256 * (t.val % 4)) / 64, by omega⟩ : Fin 4) = ⟨(y 1).val % 256 / 64, by omega⟩ :=
      Fin.ext (by show ((y 1).val - 256 * (t.val % 4)) / 64 = (y 1).val % 256 / 64; omega)
    have ed : (⟨((y 1).val - 256 * (t.val % 4)) % 64, by omega⟩ : Fin 64) = ⟨(y 1).val % 64, by omega⟩ :=
      Fin.ext (by show ((y 1).val - 256 * (t.val % 4)) % 64 = (y 1).val % 64; omega)
    rw [eg, ee, ed]
  · rw [dif_neg h]
    exact hs y (by omega)

theorem filled_step (c : Dev nD) (t : Fin cfg0.N) (s : Vec Ideal S2048x1024 .bf16) (hs : Filled m c t.val s) :
    Filled m c (t.val + 1) (grow (t.val % 4) (xBlk m c (batchOf t)) (wBlk m c (groupOf t)) s) := by
  intro y hy
  rw [grow_apply m c t s hs y (by omega)]
  have eb : batchOf t = ⟨(t.val + 1) / 4 % 2, Nat.mod_lt _ (by decide)⟩ :=
    Fin.ext (by show t.val / 4 % 2 = (t.val + 1) / 4 % 2; omega)
  rw [eb]

theorem filled_last (c : Dev nD) (t : Fin cfg0.N) (h3 : t.val % 4 = 3) (s : Vec Ideal S2048x1024 .bf16) (hs : Filled m c t.val s) :
    grow (t.val % 4) (xBlk m c (batchOf t)) (wBlk m c (groupOf t)) s = attn m c (batchOf t) :=
  funext fun y => grow_apply m c t s hs y (by have : (y 1).val < 1024 := (y 1).isLt; omega)

theorem filled_zero (c : Dev nD) (n : Nat) (h : n % 4 = 0) (s : Vec Ideal S2048x1024 .bf16) : Filled m c n s :=
  fun y hy => by omega

/-! ## The pipeline's proof data -/

/-- The scratch as a whole buffer. -/
abbrev scr : Memref sig .tc .vmem S2048x1024 .bf16 := Memref.whole cc0_scratch0

/-- Between points: the scratch filled so far, and the generator's register at anything. -/
def between (c : Dev nD) (n : Nat) : sProp 𝕄 :=
  iprop((∃ s, ⌜Filled m c n s⌝ ∗ owns (c : Thread nD τ) scr fullShare s) ∗ (∃ r, prngReg c r))

theorem class_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The arrays as the region finds them, the inputs' blocks in place after a point, the output's block after a batch's
    last point at the projection of the batch's attention. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (attn m c (batchOf t)) (pwBlk m c) (pbBlk m c)
  Φ t := between m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (attn m c (batchOf t)) (pwBlk m c) (pbBlk m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body at a point -/

/-- The windows' current staging buffers. -/
abbrev st0 (t : Fin cfg0.N) : Memref sig .tc .vmem S1x2048x1024 .bf16 := win0_0.stage (cfg0.slots t 0)
abbrev st1 (t : Fin cfg0.N) : Memref sig .tc .vmem S1x768x1024 .bf16 := win0_1.stage (cfg0.slots t 1)
abbrev st2 (t : Fin cfg0.N) : Memref sig .tc .vmem S1024x1024 .bf16 := win0_2.stage (cfg0.slots t 2)
abbrev st3 (t : Fin cfg0.N) : Memref sig .tc .vmem S1x1024 .f32 := win0_3.stage (cfg0.slots t 3)
abbrev st4 (t : Fin cfg0.N) : Memref sig .tc .vmem S1x2048x1024 .bf16 := win0_4.stage (cfg0.slots t 4)

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The output's block is idle but at a batch's last point. -/
theorem idle_4 (t : Fin cfg0.N) (h : ¬t.val % 4 = 3) : cfg0.idle 4 (grid0.coords t) = true := by
  show (!(k0_cond1 (grid0.coords t) == 1#1)) = true
  rw [beq_false_of_ne fun e => h ((last_iff t).mp e)]
  rfl

theorem live_4 (t : Fin cfg0.N) (h : t.val % 4 = 3) : cfg0.idle 4 (grid0.coords t) = false := by
  show (!(k0_cond1 (grid0.coords t) == 1#1)) = false
  rw [(last_iff t).mpr h]
  rfl

theorem noflush_4 (t : Fin cfg0.N) (h : ¬t.val % 4 = 3) : (cfg0.win 4).flush t = false := by
  rw [Bool.eq_false_iff]
  exact fun e => h ((flush0_4 t).mp e)

theorem leaves_0 (c : Dev nD) (t : Fin cfg0.N) :
    (dats m 0 c).leavesExact 0 t = owns (c : Thread nD τ) (st0 t) fullShare (xBlk m c (batchOf t)) := by
  unfold Dat.leavesExact; rw [show cfg0.idle 0 (grid0.coords t) = false from rfl, after_0, iblk_x]
theorem leaves_1 (c : Dev nD) (t : Fin cfg0.N) :
    (dats m 0 c).leavesExact 1 t = owns (c : Thread nD τ) (st1 t) fullShare (wBlk m c (groupOf t)) := by
  unfold Dat.leavesExact; rw [show cfg0.idle 1 (grid0.coords t) = false from rfl, after_1, iblk_w]
theorem leaves_2 (c : Dev nD) (t : Fin cfg0.N) :
    (dats m 0 c).leavesExact 2 t = owns (c : Thread nD τ) (st2 t) fullShare (pwBlk m c) := by
  unfold Dat.leavesExact; rw [show cfg0.idle 2 (grid0.coords t) = false from rfl, after_2, iblk_pw]
theorem leaves_3 (c : Dev nD) (t : Fin cfg0.N) :
    (dats m 0 c).leavesExact 3 t = owns (c : Thread nD τ) (st3 t) fullShare (pbBlk m c) := by
  unfold Dat.leavesExact; rw [show cfg0.idle 3 (grid0.coords t) = false from rfl, after_3, iblk_pb]
theorem leaves_4 (c : Dev nD) (t : Fin cfg0.N) (h : t.val % 4 = 3) :
    (dats m 0 c).leavesExact 4 t
      = owns (c : Thread nD τ) (st4 t) fullShare (outBlock (attn m c (batchOf t)) (pwBlk m c) (pbBlk m c)) := by
  unfold Dat.leavesExact; rw [live_4 t h, after_4]

/-- What the scratch reads back after a point's stores, in the point's own terms. -/
theorem scr_after (c : Dev nD) (t : Fin cfg0.N) (h : scr.IsWhole) (s : Vec Ideal S2048x1024 .bf16) :
    scr.view.read (Elt Ideal) (scr.view.writes (Elt Ideal) (h.unread s)
        (scratchStores (grid0.coords t) (xBlk m c (batchOf t)) (wBlk m c (groupOf t))))
      = grow (t.val % 4) (xBlk m c (batchOf t)) (wBlk m c (groupOf t)) s := by
  rw [scratch_after, group_coord, h.read_unread]

set_option maxHeartbeats 800000 in
/-- The body at any point: the scratch grows by the point's group, and at a batch's last point the output's block takes
    the projection. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, iblk_x, iblk_w, iblk_pw, iblk_pb]
  rw [leaves_0, leaves_1, leaves_2, leaves_3,
    show (dats m 0 c).owesAt () t.succ = (dats m 0 c).owesAt () t.castSucc from rfl,
    show (dats m 0 c).Φ t.succ = between m c (t.val + 1) from rfl,
    show (dats m 0 c).Φ t.castSucc = between m c t.val from rfl]
  unfold between
  by_cases h3 : t.val % 4 = 3
  · rw [leaves_4 m c t h3]
    iintro ⟨⟨⟨%s, %hs, HS⟩, Hg⟩, Ho, ⟨%d0, H0⟩, ⟨%d1, H1⟩, ⟨%d2, H2⟩, ⟨%d3, H3⟩, ⟨%d4, H4⟩⟩
    iapply ((body_last c (grid0.coords t) _ _ _ _ _ _ _ _ _ _ _ _ ((last_iff t).mpr h3) (xBlk m c (batchOf t)) (wBlk m c (groupOf t)) (pwBlk m c) (pbBlk m c) s) Set.univ _)
    isplitl [H0]; · iexact H0
    isplitl [H1]; · iexact H1
    isplitl [H2]; · iexact H2
    isplitl [H3]; · iexact H3
    isplitl [H4]; · iexists _; iexact H4
    isplitl [HS]; · iexact HS
    rw [scr_after, filled_last m c t h3 s hs]
    simp only [out_after]
    iintro ⟨H0, H1, H2, H3, ⟨%f, H4⟩, HS⟩
    isplitl [HS Hg]
    · isplitl [HS]
      · iexists (attn m c (batchOf t))
        isplitr
        · ipureintro; exact filled_zero m c _ (by omega) _
        iexact HS
      iexact Hg
    isplitl [Ho]; · iexact Ho
    isplitl [H0]; · iexact H0
    isplitl [H1]; · iexact H1
    isplitl [H2]; · iexact H2
    isplitl [H3]; · iexact H3
    iexact H4
  · rw [(dats m 0 c).leavesExact_idle 4 t (idle_4 t h3) (noflush_4 t h3)]
    iintro ⟨⟨⟨%s, %hs, HS⟩, Hg⟩, Ho, ⟨%d0, H0⟩, ⟨%d1, H1⟩, ⟨%d2, H2⟩, ⟨%d3, H3⟩, ⟨%d4, H4⟩⟩
    iapply ((body_inner c (grid0.coords t) _ _ _ _ _ _ _ _ _ _ _ _ (fun h => h3 ((last_iff t).mp h)) (xBlk m c (batchOf t)) (wBlk m c (groupOf t)) (pwBlk m c) (pbBlk m c) _ s) Set.univ _)
    isplitl [H0]; · iexact H0
    isplitl [H1]; · iexact H1
    isplitl [H2]; · iexact H2
    isplitl [H3]; · iexact H3
    isplitl [H4]; · iexact H4
    isplitl [HS]; · iexact HS
    rw [scr_after]
    iintro ⟨H0, H1, H2, H3, H4, HS⟩
    isplitl [HS Hg]
    · isplitl [HS]
      · iexists _
        isplitr
        · ipureintro; exact filled_step m c t s hs
        iexact HS
      iexact Hg
    isplitl [Ho]; · iexact Ho
    isplitl [H0]; · iexact H0
    isplitl [H1]; · iexact H1
    isplitl [H2]; · iexact H2
    isplitl [H3]; · iexact H3
    iexists _; iexact H4

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The launch -/

/-- The region starts with the scratch at anything. -/
theorem enter (c : Dev nD) : (Pipeline.ΦA spec0 c : sProp 𝕄) ⊢ (dats m 0 c).Φ 0 := by
  rw [class_eq, show (dats m 0 c).Φ 0 = between m c 0 from rfl]
  unfold between
  iintro ⟨⟨%s, HS⟩, Hg⟩
  isplitl [HS]
  · iexists _
    isplitr
    · ipureintro; exact filled_zero m c 0 rfl s
    iexact HS
  iexact Hg

/-- The region ends with the scratch at something. -/
theorem leave (c : Dev nD) : (dats m 0 c).Φ (Fin.last cfg0.N) ⊢ (Pipeline.ΦA spec0 c : sProp 𝕄) := by
  rw [class_eq, show (dats m 0 c).Φ (Fin.last cfg0.N) = between m c cfg0.N from rfl]
  unfold between
  iintro ⟨⟨%s, %hs, HS⟩, Hg⟩
  isplitl [HS]
  · iexists _
    iexact HS
  iexact Hg

set_option backward.isDefEq.respectTransparency.types false in
set_option maxHeartbeats 800000 in
/-- Every weakly fair execution terminates with the arrays and the later lines' buffers at what the proof data say, and
    every semaphore counter at zero. -/
theorem run_launch : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

end Cert.KernelIdeal.Val

end
-- ==== Proof.Final.lean ====
module

public import proofs.«01_k».proof.Proof.Launch
public import Idealize.ShloMosaic.Lib.Pipeline.Value
public import Idealize.ShloMosaic.Lib.StableHlo.ReadAt
public import Idealize.ShloMosaic.Lib.Pointwise
public import Idealize.ShloMosaic.Lib.Claim

/-!
The kernel's result array after the run.

The output's blocks are written back at the two batches' last points and together are the whole array, so the array ends
at every batch's projection (`final_out`); the last host line widens it to f32, which leaves the value (`run_value`).
The arrays the launch reads are the arguments re-laid by the host's first lines (`xBlk_apply` to `pbBlk_apply`).
-/

@[expose] public section

set_option maxRecDepth 16384

noncomputable section

namespace Cert.KernelIdeal.Val

open Idealize.ShloMosaic Idealize.ShloMosaic.TcCoe Idealize.SL.Sem
open Idealize.ShloMosaic.Rounds
open Idealize.ShloMosaic.Pipeline (Dat)
open Cert.KernelIdeal Cert.KernelIdeal.Gen
open Cert.KernelIdeal.Facts

variable (m : (ℓ : Loc nD τ sig) → Buf (Elt Ideal) ℓ) (ρ : Dev nD → PrngReg)

/-- The result: batch `b`'s rows are its attention through the output projection. -/
def result (c : Dev nD) : Vec Ideal S2x2048x1024 .bf16 := fun y =>
  outBlock (attn m c (y 0)) (pwBlk m c) (pbBlk m c) (ix3 0 (y 1) (y 2))

/-- The result at an index of batch `b` is the batch's block there. -/
theorem result_at (c : Dev nD) (b : Fin 2) (y : S1x2048x1024.Idx) (z : S2x2048x1024.Idx)
    (h0 : (z 0).val = b.val) (h1 : (z 1).val = (y 1).val) (h2 : (z 2).val = (y 2).val) :
    outBlock (attn m c b) (pwBlk m c) (pbBlk m c) y = result m c z := by
  obtain rfl : z 0 = b := Fin.ext h0
  have e1 : z 1 = y 1 := Fin.ext h1
  have e2 : z 2 = y 2 := Fin.ext h2
  unfold result outBlock
  show _ = (∑ k : Fin 1024, (attn m c (z 0) (ix2 (z 1) k) : EReal) * pwBlk m c (ix2 (z 2) k)) + pbBlk m c (ix2 0 (z 2))
  rw [e1, e2]

/-- Each write-back writes its batch's part of the result. -/
theorem flushed_eq (c : Dev nD) (t : Fin cfg0.N) :
    (dats m 0 c).flushed 4 t = ((cfg0.win 4).blk t).view.read (Elt Ideal) (result m c) := by
  obtain ⟨h0, h1, h2⟩ := corner4 t
  show (cfg0.win 4).cut (grid0.coords t) ((dats m 0 c).after 4 t) = _
  rw [after_4]
  funext y
  have y0 : (y 0).val < 1 := (y 0).isLt
  rw [View.read_apply]
  refine result_at m c (batchOf t) y _ ?_ ?_ ?_
  · show win0_4.index t 0 * 1 + 1 * (y 0).val = t.val / 4 % 2; omega
  · show win0_4.index t 1 * 2048 + 1 * (y 1).val = (y 1).val; omega
  · show win0_4.index t 2 * 1024 + 1 * (y 2).val = (y 2).val; omega

/-- The array ends holding the result: batch `b`'s rows are written at point `4 b + 3`. -/
theorem final_out (c : Dev nD) : (dats m 0 c).arrAt 4 cfg0.N = result m c :=
  (dats m 0 c).arrAt_eq_of_cover 4 (result m c) (fun t _ => flushed_eq m c t) fun i => by
    have h0 : (i 0 : Nat) < 2 := (i 0).isLt
    have h1 : (i 1 : Nat) < 2048 := (i 1).isLt
    have h2 : (i 2 : Nat) < 1024 := (i 2).isLt
    have hN : cfg0.N = 8 := N_0
    obtain ⟨t, ht⟩ : ∃ t : Fin cfg0.N, t.val = 4 * (i 0).val + 3 := ⟨⟨4 * (i 0).val + 3, by omega⟩, rfl⟩
    refine ⟨t, (flush0_4 t).mpr (by omega), ?_⟩
    obtain ⟨c0, c1, c2⟩ := corner4 t
    show i ∈ ((View.whole main_v7).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1
                rw [c0]; omega
    | ⟨1, _⟩ => show win0_4.index t 1 * 2048 ≤ (i 1 : Nat) ∧ (i 1 : Nat) < win0_4.index t 1 * 2048 + 2048
                rw [c1]; omega
    | ⟨2, _⟩ => show win0_4.index t 2 * 1024 ≤ (i 2 : Nat) ∧ (i 2 : Nat) < win0_4.index t 2 * 1024 + 1024
                rw [c2]; omega

/-- The widened array, the value @main returns. -/
theorem tail_out (c : Dev nD) :
    Pipeline.afterTail₀ cfgs (dats m) 0 (V0 m) [hostOps1] c main_v8 = (result m c : Vec Ideal S2x2048x1024 .bf16) := by
  have hw : Pipeline.withArrays spec0 c (V0 m c) (fun w => (dats m 0 c).arrAt w cfg0.N) (Proc.devRef .tc main_v7) = result m c :=
    (Pipeline.withArrays_arr spec0 launch0.win.arr_inj c (V0 m c) _ 4).trans (final_out m c)
  unfold Pipeline.afterTail₀
  simp only [hostOps1, List.flatten_cons, List.flatten_nil, List.append_nil]
  after_results
  exact hw

/-- The kernel's run, read: the returned array at the result, the arguments unchanged, every counter at zero. -/
theorem run_value : θ_run defs (onTc (τ := τ) (main (F := Ideal))) ⟨m, fun _ => 0, ρ⟩ (fun r => (∀ c : Dev nD,
      r.2.mem ((c.tc : Thread nD τ).loc main_v8) = (result m c : Vec Ideal S2x2048x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have hf := frame_of m ρ (dats m) (A_eq m) ((θ_run defs _ _).mono (fun _ h => h.1) (run_launch m ρ))
  refine (θ_run defs _ _).mono (fun _ h => ⟨fun c => ⟨?_, h.2 c⟩, h.1.2⟩) (θ_run_and (run_launch m ρ) hf)
  exact ((h.1.1 c).2 main_v8 (Pipeline.mem_restRefs_of main_v8 (by decide) (by decide))).trans (tail_out m c)

/-! ## The host's first lines, read at an index -/

theorem xBlk_apply (c : Dev nD) (b : Fin 2) (r : Fin 2048) (k : Fin 1024) :
    xBlk m c b (ix3 0 r k) = (m ((c.tc : Thread nD τ).loc main_arg0) : Vec Ideal S2x2048x1024 .f32) (ix3 b r k) := by
  show (V m c main_v6 : Vec Ideal S2x2048x1024 .bf16) (ix3 b r k) = _
  unfold V V0
  simp only [hostOps0, List.flatten_cons, List.flatten_nil, List.append_nil]
  after_reads_at

/-- Row `192 e + 64 p + d` of group `g`'s weight is row `1024 p + 64 (4 g + e) + d` of the argument. -/
theorem wBlk_apply (c : Dev nD) (g e : Fin 4) (p : Fin 3) (d : Fin 64) (k : Fin 1024) :
    wBlk m c g (ix3 0 (colOf e p d) k)
      = (m ((c.tc : Thread nD τ).loc main_arg3) : Vec Ideal S3072x1024 .f32)
          (ix2 ⟨1024 * p.val + 256 * g.val + 64 * e.val + d.val, by omega⟩ k) := by
  show (V m c main_v3 : Vec Ideal S4x768x1024 .bf16) (ix3 g (colOf e p d) k) = _
  unfold V V0
  simp only [hostOps0, List.flatten_cons, List.flatten_nil, List.append_nil]
  after_reads_at
  have hp : p.val < 3 := p.isLt
  have hc : (colOf e p d).val = 192 * e.val + 64 * p.val + d.val := rfl
  refine congrArg (fun r => m (c, Proc.tc.devRef main_arg3) (ix2 r k)) (Fin.ext ?_)
  show (colOf e p d).val / 64 % 3 * 1024 + g.val * 256 + (colOf e p d).val / 192 * 64 + (colOf e p d).val % 64
    = 1024 * p.val + 256 * g.val + 64 * e.val + d.val
  omega

theorem pwBlk_apply (c : Dev nD) (j k : Fin 1024) :
    pwBlk m c (ix2 j k) = (m ((c.tc : Thread nD τ).loc main_arg4) : Vec Ideal S1024x1024 .f32) (ix2 j k) := by
  show (V m c main_v4 : Vec Ideal S1024x1024 .bf16) (ix2 j k) = _
  unfold V V0
  simp only [hostOps0, List.flatten_cons, List.flatten_nil, List.append_nil]
  after_reads_at

theorem pbBlk_apply (c : Dev nD) (j : Fin 1024) :
    pbBlk m c (ix2 0 j) = (m ((c.tc : Thread nD τ).loc main_arg5) : Vec Ideal S1024 .f32) (ix1 j) := by
  show (V m c main_v5 : Vec Ideal S1x1024 .f32) (ix2 0 j) = _
  unfold V V0
  simp only [hostOps0, List.flatten_cons, List.flatten_nil, List.append_nil]
  after_reads_at

end Cert.KernelIdeal.Val

end
-- ==== Proof.Softmax.lean ====
module

public import Idealize.ShloMosaic.PureOps.Ideal
public import Idealize.ShloMosaic.Lib.IdealHost
public import Mathlib.Analysis.SpecialFunctions.Pow.Real

/-!
The softmax average written in two ways.

The kernel raises 2 to the scores over `log 2`, sums the values under these weights and divides at the end. The formula
subtracts the greatest score, takes the exponential, divides each weight and sums last. Where the scores are real numbers
both are one value, whatever the values averaged are (`average_eq`).
-/

@[expose] public section

noncomputable section

namespace Cert.Softmax

open Idealize.ShloMosaic

variable {ι : Type} [Fintype ι]

/-- A sum of reals is the real sum. -/
theorem sum_real (s : Finset ι) (f : ι → ℝ) : (∑ i ∈ s, (f i : EReal)) = ((∑ i ∈ s, f i : ℝ) : EReal) :=
  (map_sum (⟨⟨((↑) : ℝ → EReal), EReal.coe_zero⟩, EReal.coe_add⟩ : ℝ →+ EReal) f s).symm

/-- A nonnegative real factor goes into a sum. -/
theorem sum_mul_real (s : Finset ι) (c : ℝ) (hc : 0 ≤ c) (f : ι → EReal) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The greatest of finitely many reals, taken from minus infinity on, is a real. -/
theorem greatest_real [Nonempty ι] (f : ι → ℝ) :
    ∃ μ : ℝ, Finset.fold max (⊥ : EReal) (fun i => (f i : EReal)) Finset.univ = (μ : EReal) := by
  obtain ⟨i, -, hi⟩ := Finset.exists_mem_eq_sup' (s := Finset.univ) Finset.univ_nonempty (fun i => (f i : EReal))
  refine ⟨f i, ?_⟩
  rw [← hi, Finset.sup'_eq_sup]
  rfl

/-- Two to a number over `log 2` is its exponential. -/
theorem exp2_over_log (s : ℝ) : Ideal.exp2 ((s * (Real.log 2)⁻¹ : ℝ) : EReal) = (Real.exp s : EReal) := by
  rw [Ideal.exp2_coe]
  have h : Real.log 2 ≠ 0 := (Real.log_pos one_lt_two).ne'
  refine congrArg Real.toEReal ?_
  show (2 : ℝ) ^ (s * (Real.log 2)⁻¹) = Real.exp s
  rw [Real.rpow_def_of_pos two_pos]
  congr 1
  field_simp

/-- The average of `v` under the softmax of real scores `s`: with the powers of two and the division last it is what it
    is with the scores shifted by their greatest and every weight divided. -/
theorem average_eq [Nonempty ι] (s : ι → ℝ) (v : ι → EReal) :
    (∑ i, Ideal.exp2 ((s i * (Real.log 2)⁻¹ : ℝ) : EReal) * v i)
        * Ideal.div 1 (∑ i, Ideal.exp2 ((s i * (Real.log 2)⁻¹ : ℝ) : EReal))
      = ∑ i, Ideal.div
          (Ideal.exp ((s i : EReal) - Finset.fold max (⊥ : EReal) (fun i => (s i : EReal)) Finset.univ))
          (∑ j, Ideal.exp ((s j : EReal) - Finset.fold max (⊥ : EReal) (fun i => (s i : EReal)) Finset.univ)) * v i := by
  obtain ⟨μ, hμ⟩ := greatest_real s
  simp only [hμ, exp2_over_log, ← EReal.coe_sub, Ideal.exp_coe, sum_real]
  have hs : 0 < ∑ i, Real.exp (s i) := Finset.sum_pos (fun i _ => Real.exp_pos _) Finset.univ_nonempty
  have hd : 0 < ∑ i, Real.exp (s i - μ) := Finset.sum_pos (fun i _ => Real.exp_pos _) Finset.univ_nonempty
  have he : ∑ i, Real.exp (s i - μ) = (∑ i, Real.exp (s i)) / Real.exp μ := by
    rw [Finset.sum_div]
    exact Finset.sum_congr rfl fun i _ => Real.exp_sub _ _
  rw [Ideal.div_coe hs.ne', one_mul, sum_mul_real _ _ (one_div_pos.mpr hs).le]
  refine Finset.sum_congr rfl fun i _ => ?_
  rw [Ideal.div_coe hd.ne', mul_right_comm, ← EReal.coe_mul, ← EReal.coe_mul, he, Real.exp_sub]
  congr 2
  have := (Real.exp_pos μ).ne'
  field_simp

/-- The pattern of minus infinity. -/
theorem ofBits_neg_inf : Ideal.ofBits .f32 0xFF800000#32 = ⊥ := by
  simp [Ideal.ofBits, Ideal.ieee]

/-- The pattern of infinity. -/
theorem ofBits_inf : Ideal.ofBits .f32 0x7F800000#32 = ⊤ := by
  simp [Ideal.ofBits, Ideal.ieee]

/-- The pattern of one eighth. -/
theorem ofBits_eighth : Ideal.ofBits .f32 0x3E000000#32 = ((1 / 8 : ℝ) : EReal) := by
  simp [Ideal.ofBits, Ideal.ieee, -EReal.coe_mul]; norm_num

/-- A number whose absolute value is below infinity is a real. -/
theorem real_of_abs_lt {x : EReal} (h : Ideal.cmp .olt (max x (-x)) (Ideal.ofBits .f32 0x7F800000#32) = 1#1) : ∃ r : ℝ, x = (r : EReal) := by
  rw [ofBits_inf] at h
  induction x with
  | bot => exact absurd h (by simp [Ideal.cmp])
  | top => exact absurd h (by simp [Ideal.cmp])
  | coe r => exact ⟨r, rfl⟩

end Cert.Softmax

end
-- ==== Proof.Formula.lean ====
module

public import proofs.«01_k».proof.Proof.Softmax
public import proofs.«01_k».proof.Proof.Gen.ReferenceIdeal.Run
public import Idealize.ShloMosaic.Lib.Pointwise

/-!
The formula of multi-head attention at an index, and the reference read as it (`reference_at`), one stage of the
reference after the other.

Column `k` of the attention belongs to head `k / 64`; its query, key and value rows of the weight are `64 (k / 64) + d`,
the same 1024 further on, and `k` itself 2048 further on.
-/

@[expose] public section

set_option maxRecDepth 16384

noncomputable section

namespace Cert.Formula

open Idealize.ShloMosaic Idealize.ShloMosaic.TcCoe

/-- The activations, the weight of queries, keys and values, as arrays of extended reals. -/
abbrev Acts : Type := Shape.Idx ⟨3, ![2, 2048, 1024]⟩ → EReal
abbrev Weight : Type := Shape.Idx ⟨2, ![3072, 1024]⟩ → EReal

/-- The weight's row of query, key, value entry `d` of column `k`'s head. -/
def qRow (k : Fin 1024) (d : Fin 64) : Fin 3072 := ⟨k.val / 64 * 64 + d.val, by omega⟩
def kRow (k : Fin 1024) (d : Fin 64) : Fin 3072 := ⟨1024 + k.val / 64 * 64 + d.val, by omega⟩
def vRow (k : Fin 1024) (d : Fin 64) : Fin 3072 := ⟨2048 + k.val / 64 * 64 + d.val, by omega⟩

/-- Position `r` of sequence `b` against row `n` of the weight. -/
def entry (x : Acts) (w : Weight) (b : Fin 2) (r : Fin 2048) (n : Fin 3072) : EReal :=
  ∑ c : Fin 1024, x (ix3 b r c) * w (ix2 n c)

/-- The score of position `r'` for position `r`, in column `k`'s head: the query times the key, over 8. -/
def score (x : Acts) (w : Weight) (b : Fin 2) (k : Fin 1024) (r r' : Fin 2048) : EReal :=
  (∑ d : Fin 64, entry x w b r (qRow k d) * entry x w b r' (kRow k d)) * ((1 / 8 : ℝ) : EReal)

/-- The greatest score for position `r`. -/
def greatest (x : Acts) (w : Weight) (b : Fin 2) (k : Fin 1024) (r : Fin 2048) : EReal :=
  Finset.fold max (⊥ : EReal) (fun r' => score x w b k r r') Finset.univ

/-- The attention at position `r`, column `k`: the values averaged under the softmax of the scores. -/
def attention (x : Acts) (w : Weight) (b : Fin 2) (r : Fin 2048) (k : Fin 1024) : EReal :=
  ∑ r' : Fin 2048, Ideal.div (Ideal.exp (score x w b k r r' - greatest x w b k r))
      (∑ r'' : Fin 2048, Ideal.exp (score x w b k r r'' - greatest x w b k r))
    * entry x w b r' (vRow k ⟨k.val % 64, Nat.mod_lt _ (by decide)⟩)

open Cert.ReferenceIdeal Cert.ReferenceIdeal.Gen

/-- The reference's first product: every position against every row of the weight. -/
def entries (x : Vec Ideal S2x2048x1024 .f32) (w : Vec Ideal S3072x1024 .f32) : Vec Ideal S2x2048x3072 .f32 :=
  Host.dotGeneral (F := Ideal) (φ₁ := .f32) (φ₂ := .f32) dot_S2x2048x1024_S1024x3072_S2x2048x3072_2_0_01_1_n_n none x
    (transpose S1024x3072 [1, 0] w transposes_S3072x1024_S1024x3072_1_0)

/-- Its columns laid out by part (query, key, value), sequence, head, position and entry. -/
def parts (z : Vec Ideal S2x2048x3072 .f32) : Vec Ideal S3x2x16x2048x64 .f32 :=
  transpose S3x2x16x2048x64 [2, 0, 3, 1, 4] (shapeCast _ z shapeCasts_S2x2048x3072_S2x2048x3x16x64)
    transposes_S2x2048x3x16x64_S3x2x16x2048x64_2_0_3_1_4

/-- The queries, the keys, the values. -/
def queries (z : Vec Ideal S2x2048x3072 .f32) : Vec Ideal S2x16x2048x64 .f32 :=
  shapeCast _ (extractStridedSlice S1x2x16x2048x64 ![0, 0, 0, 0, 0] (parts z)
    slices_S3x2x16x2048x64_S1x2x16x2048x64_0_0_0_0_0) shapeCasts_S1x2x16x2048x64_S2x16x2048x64
def keys (z : Vec Ideal S2x2048x3072 .f32) : Vec Ideal S2x16x2048x64 .f32 :=
  shapeCast _ (extractStridedSlice S1x2x16x2048x64 ![1, 0, 0, 0, 0] (parts z)
    slices_S3x2x16x2048x64_S1x2x16x2048x64_1_0_0_0_0) shapeCasts_S1x2x16x2048x64_S2x16x2048x64
def values (z : Vec Ideal S2x2048x3072 .f32) : Vec Ideal S2x16x2048x64 .f32 :=
  shapeCast _ (extractStridedSlice S1x2x16x2048x64 ![2, 0, 0, 0, 0] (parts z)
    slices_S3x2x16x2048x64_S1x2x16x2048x64_2_0_0_0_0) shapeCasts_S1x2x16x2048x64_S2x16x2048x64

/-- The scaled scores of every query against every key. -/
def scores (q k : Vec Ideal S2x16x2048x64 .f32) : Vec Ideal S2x16x2048x2048 .f32 :=
  mulf (Host.dotGeneral (F := Ideal) (φ₁ := .f32) (φ₂ := .f32)
      dot_S2x16x2048x64_S2x16x64x2048_S2x16x2048x2048_3_2_2_3_01_01 none q
      (transpose S2x16x64x2048 [0, 1, 3, 2] k transposes_S2x16x2048x64_S2x16x64x2048_0_1_3_2))
    (broadcastInDim S2x16x2048x2048 ![] bcast_S_S2x16x2048x2048 (constant (F := Ideal) S_ .f32 0x3E000000#32))

/-- Each row's greatest score. -/
def rowMax (s : Vec Ideal S2x16x2048x2048 .f32) : Vec Ideal S2x16x2048 .f32 :=
  Host.reduce (FloatOps.maximumf (F := Ideal) (φ := .f32)) s (constant (F := Ideal) S_ .f32 0xFF800000#32) reducesTo_S2x16x2048x2048_S2x16x2048_d3 h_S_

/-- The exponentials of the scores less the row's number in `g`. -/
def exps (s : Vec Ideal S2x16x2048x2048 .f32) (g : Vec Ideal S2x16x2048 .f32) : Vec Ideal S2x16x2048x2048 .f32 :=
  Host.exp (F := Ideal) (φ := .f32) (subf s
    (broadcastInDim S2x16x2048x2048 ![0, 1, 2, 3] bcast_S2x16x2048x1_S2x16x2048x2048_0_1_2_3
      (broadcastInDim S2x16x2048x1 ![0, 1, 2] bcast_S2x16x2048_S2x16x2048x1_0_1_2
        (maximumf (broadcastInDim S2x16x2048 ![] bcast_S_S2x16x2048 (constant S_ .f32 0xFF800000#32)) g))))

/-- Each row over its sum. -/
def normed (e : Vec Ideal S2x16x2048x2048 .f32) : Vec Ideal S2x16x2048x2048 .f32 :=
  Host.divf (F := Ideal) (φ := .f32) e
    (broadcastInDim S2x16x2048x2048 ![0, 1, 2, 3] bcast_S2x16x2048x1_S2x16x2048x2048_0_1_2_3
      (broadcastInDim S2x16x2048x1 ![0, 1, 2] bcast_S2x16x2048_S2x16x2048x1_0_1_2
        (Host.reduceAdd e (constant S_ .f32 0x00000000#32) reducesTo_S2x16x2048x2048_S2x16x2048_d3 h_S_)))

/-- The values averaged, the heads side by side. -/
def mixed (p : Vec Ideal S2x16x2048x2048 .f32) (v : Vec Ideal S2x16x2048x64 .f32) : Vec Ideal S2x2048x1024 .f32 :=
  shapeCast _ (transpose S2x2048x16x64 [0, 2, 1, 3]
    (Host.dotGeneral (F := Ideal) (φ₁ := .f32) (φ₂ := .f32)
      dot_S2x16x2048x2048_S2x16x2048x64_S2x16x2048x64_3_2_2_3_01_01 none p v)
    transposes_S2x16x2048x64_S2x2048x16x64_0_2_1_3) shapeCasts_S2x2048x16x64_S2x2048x1024

/-- The attention of the first product's entries. -/
def attended (z : Vec Ideal S2x2048x3072 .f32) : Vec Ideal S2x2048x1024 .f32 :=
  mixed (normed (exps (scores (queries z) (keys z)) (rowMax (scores (queries z) (keys z))))) (values z)

/-- The output projection. -/
def projected (a : Vec Ideal S2x2048x1024 .f32) (pw : Vec Ideal S1024x1024 .f32) (pb : Vec Ideal S1024 .f32) :
    Vec Ideal S2x2048x1024 .f32 :=
  addf (Host.dotGeneral (F := Ideal) (φ₁ := .f32) (φ₂ := .f32) dot_S2x2048x1024_S1024x1024_S2x2048x1024_2_0_01_1_n_n none a
      (transpose S1024x1024 [1, 0] pw transposes_S1024x1024_S1024x1024_1_0))
    (broadcastInDim S2x2048x1024 ![0, 1, 2] bcast_S1x1x1024_S2x2048x1024_0_1_2
      (broadcastInDim S1x1x1024 ![2] bcast_S1024_S1x1x1024_2 pb))

/-- The product at an index. -/
theorem entries_at (x : Vec Ideal S2x2048x1024 .f32) (w : Vec Ideal S3072x1024 .f32) (b : Fin 2) (r : Fin 2048) (n : Fin 3072) :
    entries x w (ix3 b r n) = entry x w b r n := by
  unfold entries entry
  pointwise

/-- Query, key, value `d` of column `k`'s head are the product at the weight's rows `qRow`, `kRow`, `vRow`. -/
theorem queries_at (z : Vec Ideal S2x2048x3072 .f32) (b : Fin 2) (k : Fin 1024) (r : Fin 2048) (d : Fin 64) :
    queries z (ix4 b (⟨k.val / 64, by omega⟩ : Fin 16) r d) = z (ix3 b r (qRow k d)) := by
  unfold queries parts qRow
  pointwise
theorem keys_at (z : Vec Ideal S2x2048x3072 .f32) (b : Fin 2) (k : Fin 1024) (r : Fin 2048) (d : Fin 64) :
    keys z (ix4 b (⟨k.val / 64, by omega⟩ : Fin 16) r d) = z (ix3 b r (kRow k d)) := by
  unfold keys parts kRow
  pointwise
theorem values_at (z : Vec Ideal S2x2048x3072 .f32) (b : Fin 2) (k : Fin 1024) (r : Fin 2048) (d : Fin 64) :
    values z (ix4 b (⟨k.val / 64, by omega⟩ : Fin 16) r d) = z (ix3 b r (vRow k d)) := by
  unfold values parts vRow
  pointwise

/-- A score is a query times a key, over 8. -/
theorem scores_at (q k : Vec Ideal S2x16x2048x64 .f32) (b : Fin 2) (h : Fin 16) (r r' : Fin 2048) :
    scores q k (ix4 b h r r') = (∑ d : Fin 64, (q (ix4 b h r d) : EReal) * k (ix4 b h r' d)) * ((1 / 8 : ℝ) : EReal) := by
  unfold scores
  pointwise
  rw [Softmax.ofBits_eighth]

/-- A maximum over the last of four axes, of any extents, is the fold of `max` along it. -/
theorem max_last {n0 n1 n2 n3 : Nat} (v : Shape.Idx ⟨4, ![n0, n1, n2, n3]⟩ → EReal) (u : Shape.Idx ⟨0, ![]⟩ → EReal)
    (h : (⟨4, ![n0, n1, n2, n3]⟩ : Shape).ReducesTo [3] ⟨3, ![n0, n1, n2]⟩) (hu : 0 < (⟨0, ![]⟩ : Shape).numel)
    (a : Fin n0) (b : Fin n1) (c : Fin n2) :
    Host.reduce (max : EReal → EReal → EReal) v u h hu (ix3 a b c)
      = Finset.fold max (u (Shape.Idx.first hu)) (fun t : Fin n3 => v (ix4 a b c t)) Finset.univ := by
  rw [Host.reduce_eq_fold, h.fold_fiber_r4_a3]
  rfl

/-- The greatest score of a row. -/
theorem rowMax_at (s : Vec Ideal S2x16x2048x2048 .f32) (b : Fin 2) (h : Fin 16) (r : Fin 2048) :
    rowMax s (ix3 b h r) = Finset.fold max (⊥ : EReal) (fun t : Fin 2048 => (s (ix4 b h r t) : EReal)) Finset.univ :=
  (max_last s (fun _ => Ideal.ofBits .f32 0xFF800000#32) reducesTo_S2x16x2048x2048_S2x16x2048_d3 h_S_ b h r).trans
    (congrArg (fun u : EReal => Finset.fold max u (fun t : Fin 2048 => (s (ix4 b h r t) : EReal)) Finset.univ)
      Softmax.ofBits_neg_inf)

/-- An exponential is that of the score less the row's number. -/
theorem exps_at (s : Vec Ideal S2x16x2048x2048 .f32) (g : Vec Ideal S2x16x2048 .f32) (b : Fin 2) (h : Fin 16) (r r' : Fin 2048) :
    exps s g (ix4 b h r r') = Ideal.exp ((s (ix4 b h r r') : EReal) - g (ix3 b h r)) := by
  unfold exps
  pointwise
  rw [Softmax.ofBits_neg_inf, max_bot_left]

/-- A weight is an exponential over its row's sum. -/
theorem normed_at (e : Vec Ideal S2x16x2048x2048 .f32) (b : Fin 2) (h : Fin 16) (r r' : Fin 2048) :
    normed e (ix4 b h r r') = Ideal.div (e (ix4 b h r r')) (∑ t : Fin 2048, (e (ix4 b h r t) : EReal)) := by
  unfold normed
  pointwise

/-- Column `k` of the attention is entry `k % 64` of head `k / 64`. -/
theorem mixed_at (p : Vec Ideal S2x16x2048x2048 .f32) (v : Vec Ideal S2x16x2048x64 .f32) (b : Fin 2) (r : Fin 2048) (k : Fin 1024) :
    mixed p v (ix3 b r k)
      = (∑ r' : Fin 2048, (p (ix4 b (⟨k.val / 64, by omega⟩ : Fin 16) r r') : EReal)
          * v (ix4 b (⟨k.val / 64, by omega⟩ : Fin 16) r' (⟨k.val % 64, Nat.mod_lt _ (by decide)⟩ : Fin 64)) : EReal) := by
  unfold mixed
  pointwise

/-- The projection at an index. -/
theorem projected_at (a : Vec Ideal S2x2048x1024 .f32) (pw : Vec Ideal S1024x1024 .f32) (pb : Vec Ideal S1024 .f32)
    (b : Fin 2) (r : Fin 2048) (j : Fin 1024) :
    projected a pw pb (ix3 b r j) = (∑ k : Fin 1024, (a (ix3 b r k) : EReal) * pw (ix2 j k) : EReal) + pb (ix1 j) := by
  unfold projected
  pointwise

/-- The reference's result is its stages, one after the other. -/
theorem reference_stages (m : (ℓ : Loc nD τ sig) → Buf (Elt Ideal) ℓ) (c : Dev nD) :
    Value.res_main_v32 m c
      = projected (attended (entries (m ((c.tc : Thread nD τ).loc main_arg0)) (m ((c.tc : Thread nD τ).loc main_arg3))))
        (m ((c.tc : Thread nD τ).loc main_arg4)) (m ((c.tc : Thread nD τ).loc main_arg5)) := by
  unfold Value.res_main_v32 projected attended mixed normed exps rowMax scores queries keys values parts entries
  rfl

/-- The stages up to the attention, at an index. -/
theorem attention_at (x : Vec Ideal S2x2048x1024 .f32) (w : Vec Ideal S3072x1024 .f32) (b : Fin 2) (r : Fin 2048) (k : Fin 1024) :
    attended (entries x w) (ix3 b r k)
      = attention x w b r k := by
  have hs (r' : Fin 2048) : scores (queries (entries x w)) (keys (entries x w)) (ix4 b (⟨k.val / 64, by omega⟩ : Fin 16) r r')
      = score x w b k r r' := by
    rw [scores_at]
    simp only [queries_at, keys_at, entries_at]
    rw [score]
  have he (r' : Fin 2048) :
      exps (scores (queries (entries x w)) (keys (entries x w))) (rowMax (scores (queries (entries x w)) (keys (entries x w))))
          (ix4 b (⟨k.val / 64, by omega⟩ : Fin 16) r r')
        = Ideal.exp (score x w b k r r' - greatest x w b k r) := by
    rw [exps_at, rowMax_at, greatest]
    simp only [hs]
  rw [attended, mixed_at, attention]
  refine Finset.sum_congr rfl fun r' _ => ?_
  rw [normed_at, values_at, entries_at]
  simp only [he]

/-- The reference's result: the attention through the output projection, plus the bias. -/
theorem reference_at (m : (ℓ : Loc nD τ sig) → Buf (Elt Ideal) ℓ) (c : Dev nD) (b : Fin 2) (r : Fin 2048) (j : Fin 1024) :
    (Value.res_main_v32 m c : Vec Ideal S2x2048x1024 .f32) (ix3 b r j)
      = (∑ k : Fin 1024, attention (m ((c.tc : Thread nD τ).loc main_arg0)) (m ((c.tc : Thread nD τ).loc main_arg3)) b r k
            * (m ((c.tc : Thread nD τ).loc main_arg4) : Vec Ideal S1024x1024 .f32) (ix2 j k) : EReal)
          + (m ((c.tc : Thread nD τ).loc main_arg5) : Vec Ideal S1024 .f32) (ix1 j) := by
  rw [reference_stages, projected_at]
  simp only [attention_at]

end Cert.Formula

end
-- ==== Proof.Meet.lean ====
module

public import proofs.«01_k».proof.Proof.Final
public import proofs.«01_k».proof.Proof.Formula
public import proofs.«01_k».proof.Proof.Gen.Pre_finite
public import proofs.«01_k».proof.Defs
public import Idealize.ShloMosaic.Lib.ReduceAll

/-!
The kernel's result is the reference's.

Where the activations and the weight's query and key rows are finite the scores are real numbers (`score_real`), so the
kernel's average over powers of two is the formula's softmax average (`attn_eq`); the output projections agree term by
term (`result_eq`). The values, the projection's weight and its bias may be infinite.
-/

@[expose] public section

set_option maxRecDepth 16384

noncomputable section

namespace Cert.Meet

open Idealize.ShloMosaic Idealize.ShloMosaic.TcCoe
open Cert.KernelIdeal Cert.KernelIdeal.Val Cert.Formula

/-- The activations are real numbers. -/
def RealActs (x : Acts) : Prop := ∀ (b : Fin 2) (r : Fin 2048) (c : Fin 1024), ∃ u : ℝ, x (ix3 b r c) = (u : EReal)

/-- The first 2048 rows of the weight, those of queries and keys, are real numbers. -/
def RealRows (w : Weight) : Prop := ∀ (n : Fin 3072) (c : Fin 1024), n.val < 2048 → ∃ u : ℝ, w (ix2 n c) = (u : EReal)

/-- A query's or a key's entry is a real number. -/
theorem entry_real {x : Acts} {w : Weight} (hx : RealActs x) (hw : RealRows w) (b : Fin 2) (r : Fin 2048) (n : Fin 3072)
    (hn : n.val < 2048) : ∃ u : ℝ, entry x w b r n = (u : EReal) := by
  choose f hf using hx b r
  choose g hg using fun c => hw n c hn
  refine ⟨∑ c, f c * g c, ?_⟩
  rw [entry, ← Softmax.sum_real]
  exact Finset.sum_congr rfl fun c _ => by rw [hf, hg, EReal.coe_mul]

/-- The scores are real numbers, and the exponents of the kernel's powers of two are the scores over `log 2`. -/
theorem score_real {x : Acts} {w : Weight} (hx : RealActs x) (hw : RealRows w) (b : Fin 2) (k : Fin 1024) (r r' : Fin 2048) :
    ∃ s : ℝ, score x w b k r r' = (s : EReal)
      ∧ ∑ d : Fin 64, entry x w b r (qRow k d) * scale * entry x w b r' (kRow k d) = ((s * (Real.log 2)⁻¹ : ℝ) : EReal) := by
  have hk := k.isLt
  choose f hf using fun d => entry_real hx hw b r (qRow k d) (by have := d.isLt; simp only [qRow]; omega)
  choose g hg using fun d => entry_real hx hw b r' (kRow k d) (by have := d.isLt; simp only [kRow]; omega)
  refine ⟨(∑ d, f d * g d) * (1 / 8), ?_, ?_⟩
  · rw [score, EReal.coe_mul, ← Softmax.sum_real]
    congr 1
    exact Finset.sum_congr rfl fun d _ => by rw [hf, hg, EReal.coe_mul]
  · rw [mul_assoc, Finset.sum_mul, ← Softmax.sum_real]
    refine Finset.sum_congr rfl fun d _ => ?_
    rw [hf, hg, scale, ← EReal.coe_mul, ← EReal.coe_mul]
    congr 1
    ring

variable (m : (ℓ : Loc nD τ sig) → Buf (Elt Ideal) ℓ) (c : Dev nD)

/-- The kernel's argument arrays. -/
abbrev acts : Acts := m ((c.tc : Thread nD τ).loc main_arg0)
abbrev qkvW : Weight := m ((c.tc : Thread nD τ).loc main_arg3)

/-- A point's product at row `r` and column `d` of part `p` is the entry at the weight's row `n` of that place. -/
theorem dotRow_eq (b : Fin 2) (g e : Fin 4) (p : Fin 3) (d : Fin 64) (r : Fin 2048) (n : Fin 3072)
    (hn : n.val = 1024 * p.val + 256 * g.val + 64 * e.val + d.val) :
    dotRow (xBlk m c b) (wBlk m c g) r (colOf e p d) = entry (acts m c) (qkvW m c) b r n := by
  have hp : 1024 * p.val + 256 * g.val + 64 * e.val + d.val < 3072 := by omega
  have en : n = ⟨1024 * p.val + 256 * g.val + 64 * e.val + d.val, hp⟩ := Fin.ext hn
  rw [en, dotRow, entry]
  exact Finset.sum_congr rfl fun k _ => congrArg₂ (· * · : EReal → EReal → EReal) (xBlk_apply m c b r k) (wBlk_apply m c g e p d k)

/-- The kernel's attention is the formula's. -/
theorem attn_eq (hx : RealActs (acts m c)) (hw : RealRows (qkvW m c)) (b : Fin 2) (r : Fin 2048) (k : Fin 1024) :
    attn m c b (ix2 r k) = attention (acts m c) (qkvW m c) b r k := by
  have hk := k.isLt
  have hq (d : Fin 64) (r : Fin 2048) := dotRow_eq m c b ⟨k.val / 256, by omega⟩ ⟨k.val % 256 / 64, by omega⟩ 0 d r (qRow k d)
    (by simp only [qRow, Fin.val_zero]; omega)
  have hkey (d : Fin 64) (r : Fin 2048) := dotRow_eq m c b ⟨k.val / 256, by omega⟩ ⟨k.val % 256 / 64, by omega⟩ 1 d r (kRow k d)
    (by simp only [kRow, Fin.val_one]; omega)
  have hv (d : Fin 64) (r : Fin 2048) := dotRow_eq m c b ⟨k.val / 256, by omega⟩ ⟨k.val % 256 / 64, by omega⟩ 2 d r (vRow k d)
    (by simp only [vRow, Fin.val_two]; omega)
  show headVal (xBlk m c b) (wBlk m c ⟨k.val / 256, _⟩) ⟨k.val % 256 / 64, _⟩ r ⟨k.val % 64, _⟩ = _
  choose s hs hs2 using score_real hx hw b k r
  simp only [headVal, weight, hq, hkey, hv, hs2]
  rw [Softmax.average_eq]
  simp only [attention, greatest, hs]

/-- The kernel's result is the reference's, from arguments that agree. -/
theorem result_eq (hx : RealActs (acts m c)) (hw : RealRows (qkvW m c))
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0)
      = m ((c.tc : Thread nD τ).loc main_arg0))
    (h3 : m' ((c.tc : Thread Cert.ReferenceIdeal.nD Cert.ReferenceIdeal.τ).loc Cert.ReferenceIdeal.main_arg3)
      = m ((c.tc : Thread nD τ).loc main_arg3))
    (h4 : m' ((c.tc : Thread Cert.ReferenceIdeal.nD Cert.ReferenceIdeal.τ).loc Cert.ReferenceIdeal.main_arg4)
      = m ((c.tc : Thread nD τ).loc main_arg4))
    (h5 : m' ((c.tc : Thread Cert.ReferenceIdeal.nD Cert.ReferenceIdeal.τ).loc Cert.ReferenceIdeal.main_arg5)
      = m ((c.tc : Thread nD τ).loc main_arg5)) :
    (Cert.ReferenceIdeal.Value.res_main_v32 m' c : Vec Ideal S2x2048x1024 .f32) = (result m c : Vec Ideal S2x2048x1024 .bf16) := by
  funext y
  obtain ⟨b, r, j, rfl⟩ : ∃ (b : Fin 2) (r : Fin 2048) (j : Fin 1024), y = ix3 b r j := ⟨y 0, y 1, y 2, eq_ix3 y⟩
  refine (reference_at m' c b r j).trans ?_
  rw [h0, h3, h4, h5]
  show _ = (∑ k : Fin 1024, (attn m c b (ix2 r k) : EReal) * pwBlk m c (ix2 j k)) + pbBlk m c (ix2 0 j)
  refine congrArg₂ (· + · : EReal → EReal → EReal) (Finset.sum_congr rfl fun k _ => ?_) (pbBlk_apply m c j).symm
  exact congrArg₂ (· * · : EReal → EReal → EReal) (attn_eq m c hx hw b r k).symm (pwBlk_apply m c j k).symm

instance : Subsingleton (Shape.Idx Cert.Pre_finite.S_) := ⟨fun _ _ => funext fun i => i.elim0⟩

/-- What the precondition says of the kernel's arguments. -/
theorem real_of_pre (h : Cert.Pre_KernelIdeal_finite m) : RealActs (acts m c) ∧ RealRows (qkvW m c) := by
  obtain ⟨ha, hb⟩ := IntOp.andi_eq_one.1 (congrFun (h c) ix0)
  refine ⟨fun b r k => ?_, fun n k hn => ?_⟩
  · exact Softmax.real_of_abs_lt (Host.reduce_andi_all _ _ _ _ _ ha (ix3 b r k))
  · have e := Host.reduce_andi_all _ _ _ _ _ hb (ix2 (⟨n.val, hn⟩ : Fin 2048) k)
    refine Softmax.real_of_abs_lt (Eq.trans ?_ e)
    refine congrArg (fun u : EReal => Ideal.cmp .olt (max u (-u)) (Ideal.ofBits .f32 0x7F800000#32)) ?_
    pointwise

end Cert.Meet

end
-- ==== Proof.Safe.lean ====
module

public import proofs.«01_k».proof.Proof.Gen.Kernel.Frame
public import proofs.«01_k».proof.Proof.Gen.Kernel.Skeleton

/-!
The frame of the kernel over float words.

Nothing is said of what the body computes: at every point it runs on blocks and a scratch of any contents and hands each
buffer back at some contents (`any_body`). The argument arrays are outside the launch's reach and no host line writes
them, so they end as they began (`frame`).
-/

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.Kernel Cert.Kernel.Gen
open Cert.Kernel.Facts

variable {F : FTy → Type} [FloatOps F]

local notation "𝕄" => MT nD τ sig Unit (Elt F) ℕ (UR sig nD τ) ℕ

/-- A buffer at some contents. -/
def held (c : Dev nD) {S : Shape} {e : EltTy} (mr : Memref sig .tc .vmem S e) : sProp 𝕄 :=
  iprop(∃ X, owns (c : Thread nD τ) mr fullShare X)

/-- A buffer whose words are at hand is at some contents (`held`, written out). -/
theorem held_intro (c : Dev nD) {S : Shape} {e : EltTy} (mr : Memref sig .tc .vmem S e) (f : Buf (Elt F) (mr.view.loc (c : Thread nD τ))) :
    iprop((mr.view.loc (c : Thread nD τ)) ↦[mr.view.set]{fullShare} f) ⊢ (iprop(∃ X, ∃ f, ⌜mr.view.read (Elt F) f = X⌝ ∗ (mr.view.loc (c : Thread nD τ)) ↦[mr.view.set]{fullShare} f) : sProp 𝕄) := by
  iintro H
  iexists _, f
  isplitr; · ipureintro; rfl
  iexact H

set_option maxHeartbeats 1000000 in
/-- The body at any point runs on buffers at any contents and returns each at some contents. -/
theorem any_body (c : Dev nD) (i : grid0.Coords)
    (arg2 : Memref sig .tc .vmem S1x2048x1024 .bf16) (harg2 : arg2.IsWhole) (arg3 : Memref sig .tc .vmem S1x768x1024 .bf16) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1x2048x1024 .bf16) (harg6 : arg6.IsWhole) (arg7 : Memref sig .tc .vmem S2048x1024 .bf16) (harg7 : arg7.IsWhole) :
      ∀ (E : Set ℕ) (K : PUnit → sProp 𝕄),
        iprop(held c arg2 ∗ held c arg3 ∗ held c arg4 ∗ held c arg5 ∗ held c arg6 ∗ held c arg7
            ∗ (iprop(held c arg2 ∗ held c arg3 ∗ held c arg4 ∗ held c arg5 ∗ held c arg6 ∗ held c arg7) -∗ K ⟨⟩))
          ⊢ wp frame (wpE (defs₀ (F := F)) Variants.none c none) E (cc0__mha_kernel i arg2 harg2 arg3 harg3 arg4 harg4 arg5 harg5 arg6 harg6 arg7 harg7) K := by
  intro E K
  simp only [cc0__mha_kernel_eq_skeleton]; unfold cc0__mha_kernel_skel
  simp only [k0_part13_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part1_eq_skeleton, k0_part2_eq_skeleton]
  unfold held owns
  iintro ⟨⟨%x0, %f0, -, H0⟩, ⟨%x1, %f1, -, H1⟩, ⟨%x2, %f2, -, H2⟩, ⟨%x3, %f3, -, H3⟩, ⟨%x4, %f4, -, H4⟩, ⟨%xs, %fs, -, HS⟩, Hk⟩
  by_cases hc : k0_cond1 i = 1#1
  all_goals
    sl_exec (disch := first | sl_exact hc)
    sl_step
    iapply Hk
    isplitl [H0]; · iapply (held_intro c arg2 _) $$ H0
    isplitl [H1]; · iapply (held_intro c arg3 _) $$ H1
    isplitl [H2]; · iapply (held_intro c arg4 _) $$ H2
    isplitl [H3]; · iapply (held_intro c arg5 _) $$ H3
    isplitl [H4]; · iapply (held_intro c arg6 _) $$ H4
    iapply (held_intro c arg7 _) $$ HS

variable (m : (ℓ : Loc nD τ sig) → Buf (Elt F) ℓ) (ρ : Dev nD → PrngReg)

/-- Proof data that say nothing of what a point leaves. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem class_eq (c : Dev nD) :
    (Pipeline.ΦA spec0 c : sProp 𝕄) = iprop(held c (Memref.whole cc0_scratch0) ∗ (∃ r, prngReg c r)) := by
  unfold Pipeline.ΦA held; rw [scopedRest0_eq]; simp only [owns_whole]; try rfl

/-- Contents that are named are some contents. -/
theorem held_of_owns (c : Dev nD) {S : Shape} {e : EltTy} (mr : Memref sig .tc .vmem S e) (X : S.Idx → Elt F e) :
    owns (c : Thread nD τ) mr fullShare X ⊢ (held c mr : sProp 𝕄) := by
  unfold held
  iintro H
  iexists X
  iexact H

/-- A buffer at some contents is at contents the proof data allow, which are any. -/
theorem left_of_held (c : Dev nD) {S : Shape} {e : EltTy} (mr : Memref sig .tc .vmem S e) :
    (held c mr : sProp 𝕄) ⊢ iprop(∃ X, ⌜True⌝ ∗ owns (c : Thread nD τ) mr fullShare X) := by
  unfold held
  iintro ⟨%X, H⟩
  iexists X
  isplitr; · ipureintro; trivial
  iexact H

/-- What a point is called with, the blocks at `Y`, -/
def pointPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) ((cfg0.win 0).stage (cfg0.slots t 0)) fullShare (Y 0)
    ∗ owns (c : Thread nD τ) ((cfg0.win 1).stage (cfg0.slots t 1)) fullShare (Y 1)
    ∗ owns (c : Thread nD τ) ((cfg0.win 2).stage (cfg0.slots t 2)) fullShare (Y 2)
    ∗ owns (c : Thread nD τ) ((cfg0.win 3).stage (cfg0.slots t 3)) fullShare (Y 3)
    ∗ owns (c : Thread nD τ) ((cfg0.win 4).stage (cfg0.slots t 4)) fullShare (Y 4))

/-- and what it returns. -/
def pointPost (c : Dev nD) (t : Fin cfg0.N) : sProp 𝕄 :=
  iprop((rdat m c).Φ t.succ ∗ (rdat m c).owesAt () t.succ
    ∗ (∃ X, ⌜True⌝ ∗ owns (c : Thread nD τ) ((cfg0.win 0).stage (cfg0.slots t 0)) fullShare X)
    ∗ (∃ X, ⌜True⌝ ∗ owns (c : Thread nD τ) ((cfg0.win 1).stage (cfg0.slots t 1)) fullShare X)
    ∗ (∃ X, ⌜True⌝ ∗ owns (c : Thread nD τ) ((cfg0.win 2).stage (cfg0.slots t 2)) fullShare X)
    ∗ (∃ X, ⌜True⌝ ∗ owns (c : Thread nD τ) ((cfg0.win 3).stage (cfg0.slots t 3)) fullShare X)
    ∗ (∃ X, ⌜True⌝ ∗ owns (c : Thread nD τ) ((cfg0.win 4).stage (cfg0.slots t 4)) fullShare X))

theorem point (c : Dev nD) (t : Fin cfg0.N) (Y : (w : Fin cfg0.W) → (cfg0.win w).block.Idx → Elt F (cfg0.win w).elt) :
    pointPre m c t Y ⊢ wp frame (wpE (defs₀ (F := F)) Variants.none c none) Set.univ (bodyAt0 t) (fun _ => pointPost m c t) := by
  unfold pointPre pointPost bodyAt0
  rw [show (rdat m c).owesAt () t.succ = (rdat m c).owesAt () t.castSucc from rfl,
    show (rdat m c).Φ t.succ = Pipeline.ΦA spec0 c from rfl, show (rdat m c).Φ t.castSucc = Pipeline.ΦA spec0 c from rfl, class_eq]
  iintro ⟨⟨HS, Hg⟩, Ho, H0, H1, H2, H3, H4⟩
  iapply (any_body c (grid0.coords t) _ _ _ _ _ _ _ _ _ _ _ _ Set.univ _)
  isplitl [H0]; · iapply (held_of_owns c _ (Y 0)) $$ H0
  isplitl [H1]; · iapply (held_of_owns c _ (Y 1)) $$ H1
  isplitl [H2]; · iapply (held_of_owns c _ (Y 2)) $$ H2
  isplitl [H3]; · iapply (held_of_owns c _ (Y 3)) $$ H3
  isplitl [H4]; · iapply (held_of_owns c _ (Y 4)) $$ H4
  isplitl [HS]; · iexact HS
  iintro ⟨H0, H1, H2, H3, H4, HS⟩
  isplitl [HS Hg]
  · isplitl [HS]; · iexact HS
    iexact Hg
  isplitl [Ho]; · iexact Ho
  isplitl [H0]; · iapply (left_of_held c _) $$ H0
  isplitl [H1]; · iapply (left_of_held c _) $$ H1
  isplitl [H2]; · iapply (left_of_held c _) $$ H2
  isplitl [H3]; · iapply (left_of_held c _) $$ H3
  iapply (left_of_held c _) $$ H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y _ => by
  rw [bigSep_W0, bigSep_W0, defs₀_row]
  exact point m c t Y

/-- The line after the launch writes the result alone. -/
theorem tail_writes : ∀ ops ∈ ([hostOps1] : List (List (HloOp τ sig (Elt F)))), ∀ op ∈ ops, ∀ b : Ref sig .tc,
    Proc.devRef .tc b ∈ op.writes → b ∈ ({main_v8} : Finset (Ref sig .tc)) := by
  intro ops hops op hop b hb
  obtain rfl := List.mem_singleton.mp hops
  simp only [hostOps1, List.mem_cons, List.mem_nil_iff, or_false] at hop
  subst hop
  exact Finset.mem_singleton.mpr (Proc.devRef_injective _ (Finset.mem_singleton.mp hb))

/-- The launch leaves every buffer outside its arrays as the lines before it left it, but for the result. -/
theorem run_launch : θ_run defs (onTc (τ := τ) (main (F := F))) (s₀ m ρ)
    (fun r => RDat.FramePostR cfg0 (rdat m) {main_v8} (V m) r ∧ r.2.sem = fun _ => 0) :=
  RDat.θ_run_frame_around_T (Q' := _) cfgs (0 : Fin 1) launch0 defs₀ Variants.none (rdat m) {main_v8} m ρ main
    (hbody := body_obligation m) (hshare := fun c => (rdat m c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)

theorem rest (b : Ref sig .tc) (hs : b.isScoped = false) (hw : ∀ w, Pipeline.arrRef spec0 w ≠ b) (h8 : b ≠ main_v8) :
    b ∈ Pipeline.restRefs sig cfg0.spec \ {main_v8} :=
  Finset.mem_sdiff.mpr ⟨Pipeline.mem_restRefs_of b hs hw, fun h => h8 (Finset.mem_singleton.mp h)⟩

/-- Every weakly fair execution terminates with every semaphore counter at zero and the arguments as they were. -/
theorem frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
    ∧ r.2.sem = fun _ => 0) :=
  (θ_run defs _ _).mono (fun r h => ⟨fun c =>
    ⟨((h.1 c).2 main_arg0 (rest _ (by decide) (by decide) (by decide))).trans (V_main_arg0 m c),
      ((h.1 c).2 main_arg1 (rest _ (by decide) (by decide) (by decide))).trans (V_main_arg1 m c),
      ((h.1 c).2 main_arg2 (rest _ (by decide) (by decide) (by decide))).trans (V_main_arg2 m c),
      ((h.1 c).2 main_arg3 (rest _ (by decide) (by decide) (by decide))).trans (V_main_arg3 m c),
      ((h.1 c).2 main_arg4 (rest _ (by decide) (by decide) (by decide))).trans (V_main_arg4 m c),
      ((h.1 c).2 main_arg5 (rest _ (by decide) (by decide) (by decide))).trans (V_main_arg5 m c)⟩, h.2⟩) (run_launch m ρ)

end Cert.Kernel.Safe

end
-- ==== Proof.lean ====
/- The certificate: the frames of the kernel, of the idealized kernel and of the reference, the named constant, and the
   equality of kernel and reference over the extended reals. The kernel's frame is in Proof/Safe.lean; the values are in Proof/Final.lean (the kernel's result),
   Proof/Formula.lean (the reference's) and Proof/Meet.lean (their equality). -/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Meet
public import proofs.«01_k».proof.Proof.Safe
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, as printed over float words, terminates without fault, its arguments unchanged and its counters at zero. -/
theorem frame_kernel : quiescent_Kernel := fun m ρ _ => Cert.Kernel.Safe.frame m ρ

/-- So does the kernel over the extended reals, from any memory. -/
theorem frame_ideal : quiescent_KernelIdeal := fun m ρ _ =>
  (θ_run Cert.KernelIdeal.defs _ _).mono (fun _ h => ⟨fun c => (h.1 c).2, h.2⟩) (Cert.KernelIdeal.Val.run_value m ρ)

/-- So does the reference over the extended reals, from any memory. -/
theorem frame_reference : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's one renamed constant, the float nearest to `log₂ e / 8`, stands for that number. -/
theorem named_scale : preserves_Kernel_KernelIdeal :=
  IdealRules.named_const.statement Cert.KernelIdeal.κ "scale" .f32 0x3E38AA3B#32 (((Real.log 2)⁻¹ * (1 / 8) : ℝ) : EReal) rfl

/-- From finite activations and finite query and key rows the kernel and the reference end with one result. -/
theorem same_result : algebraic_KernelIdeal_ReferenceIdeal_pre_finite := by
  intro m ρ m' ρ' hpre hagree
  refine ⟨fun c => Cert.KernelIdeal.Val.result m c,
    (θ_run Cert.KernelIdeal.defs _ _).mono (fun _ h => h.1) (Cert.KernelIdeal.Val.run_value m ρ), ?_⟩
  refine (θ_run Cert.ReferenceIdeal.defs _ _).mono (fun _ h c => ⟨(h c).1.trans ?_, (h c).2⟩)
    (Cert.ReferenceIdeal.Value.run (F := Ideal) m' ρ')
  obtain ⟨h0, -, -, h3, h4, h5⟩ := hagree c
  obtain ⟨hx, hw⟩ := Meet.real_of_pre m c hpre
  exact Meet.result_eq m c hx hw m' h0 h3 h4 h5

/-- Every claim of the certificate. -/
theorem claim : Cert.Claim := ⟨Cert.Kernel.Gen.facts, Cert.KernelIdeal.Gen.facts, Cert.ReferenceIdeal.Gen.facts, Cert.Pre_finite.Gen.facts,
  frame_kernel, frame_ideal, fun m ρ _ => frame_ideal m ρ trivial, frame_reference, fun m ρ _ => frame_reference m ρ trivial,
  named_scale, same_result⟩

end Cert.Proof

end
